-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weight_finite [hPre_weight_finite : Cert.Pre_weight_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weight_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weight_finite [hPre_weight_finite : Cert.Pre_weight_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weight_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_weight_finite [hKernelIdeal : Cert.KernelIdeal.Facts] [hPre_weight_finite : Cert.Pre_weight_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weight_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_weight_finite [hReferenceIdeal : Cert.ReferenceIdeal.Facts] [hPre_weight_finite : Cert.Pre_weight_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weight_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "dof" .f32 0x39800801#32 ((4095⁻¹ : ℝ) : EReal)

def algebraic_KernelIdeal_ReferenceIdeal_pre_weight_finite [hKernelIdeal : Cert.KernelIdeal.Facts] [hReferenceIdeal : Cert.ReferenceIdeal.Facts] [hPre_weight_finite : Cert.Pre_weight_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weight_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_weight_finite : Cert.Pre_weight_finite.Facts),
    quiescent_Kernel (hKernel := hKernel)
    ∧ quiescent_KernelIdeal (hKernelIdeal := hKernelIdeal)
    ∧ quiescent_KernelIdeal_pre_weight_finite (hKernelIdeal := hKernelIdeal) (hPre_weight_finite := hPre_weight_finite)
    ∧ quiescent_ReferenceIdeal (hReferenceIdeal := hReferenceIdeal)
    ∧ quiescent_ReferenceIdeal_pre_weight_finite (hReferenceIdeal := hReferenceIdeal) (hPre_weight_finite := hPre_weight_finite)
    ∧ preserves_Kernel_KernelIdeal
    ∧ algebraic_KernelIdeal_ReferenceIdeal_pre_weight_finite (hKernelIdeal := hKernelIdeal) (hReferenceIdeal := hReferenceIdeal) (hPre_weight_finite := hPre_weight_finite)
-- ==== Pre_weight_finite.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S8192x4096 .f32) (main_arg1 : FVec F S4096x4096 .f32) (main_arg2 : FVec F S4096 .f32) : IVec S4096x4096 1 :=
  let main_v0 : FVec F S4096x4096 .f32 := Host.absf main_arg1
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  main_v2
-- ==== Kernel.lean ====
abbrev S8192x4096 : Shape := ⟨2, ![8192, 4096]⟩
abbrev S4096x4096 : Shape := ⟨2, ![4096, 4096]⟩
abbrev S4096 : Shape := ⟨1, ![4096]⟩
abbrev S512x512 : Shape := ⟨2, ![512, 512]⟩
abbrev S1x4096 : Shape := ⟨2, ![1, 4096]⟩
abbrev S8x4096 : Shape := ⟨2, ![8, 4096]⟩
abbrev S512x4096 : Shape := ⟨2, ![512, 4096]⟩
abbrev S256x4096 : Shape := ⟨2, ![256, 4096]⟩
abbrev S256 : Shape := ⟨1, ![256]⟩
abbrev S256x1 : Shape := ⟨2, ![256, 1]⟩
abbrev S256x512 : Shape := ⟨2, ![256, 512]⟩
abbrev S1x512 : Shape := ⟨2, ![1, 512]⟩
abbrev S4096x512 : Shape := ⟨2, ![4096, 512]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 10
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S512x512, .f32⟩
  | .hbm, ⟨5, _⟩ => ⟨S1x4096, .bf16⟩
  | .hbm, ⟨6, _⟩ => ⟨S8x4096, .f32⟩
  | .hbm, ⟨7, _⟩ => ⟨S4096x4096, .bf16⟩
  | .hbm, ⟨8, _⟩ => ⟨S1x4096, .f32⟩
  | .hbm, ⟨9, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S1x4096, .bf16⟩
  | .local _ .vmem, ⟨6, _⟩ => ⟨S8x4096, .f32⟩
  | .local _ .vmem, ⟨7, _⟩ => ⟨S512x512, .f32⟩
  | .local _ .vmem, ⟨8, _⟩ => ⟨S8x4096, .f32⟩
  | .local _ .vmem, ⟨9, _⟩ => ⟨S512x4096, .f32⟩
  | .local _ .vmem, ⟨10, _⟩ => ⟨S512x4096, .f32⟩
  | .local _ .vmem, ⟨11, _⟩ => ⟨S4096x512, .bf16⟩
  | .local _ .vmem, ⟨12, _⟩ => ⟨S4096x512, .bf16⟩
  | .local _ .vmem, ⟨13, _⟩ => ⟨S512x512, .f32⟩
  | .local _ .vmem, ⟨14, _⟩ => ⟨S256x4096, .bf16⟩
  | .local _ .vmem, ⟨15, _⟩ => ⟨S256x4096, .bf16⟩
  | .local _ .vmem, ⟨16, _⟩ => ⟨S4096x4096, .bf16⟩
  | .local _ .vmem, ⟨17, _⟩ => ⟨S1x4096, .bf16⟩
  | .local _ .vmem, ⟨18, _⟩ => ⟨S1x4096, .f32⟩
  | .local _ .vmem, ⟨19, _⟩ => ⟨S256x4096, .f32⟩
  | .local _ .vmem, ⟨20, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0_0 : Ref sig .tc := ⟨.hbm, 3, rfl⟩
abbrev main_call0_v0_1 : Ref sig .tc := ⟨.hbm, 4, rfl⟩
abbrev main_call0_v0_2 : Ref sig .tc := ⟨.hbm, 5, rfl⟩
abbrev main_call0_v0_3 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v103 : BitVec 1 := Scalar.cmpi .eq arg0 c15_i32
  let v104 : BitVec 32 := Scalar.extui v103
  let c0_i32_43 : BitVec 32 := 0#32
  let v105 : BitVec 1 := Scalar.cmpi .ne v104 c0_i32_43
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![9], ![false]⟩

def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_3 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "dof" => some ((4095⁻¹ : ℝ) : EReal)
  | _ => none
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S65536x512 : Shape := ⟨2, ![65536, 512]⟩
abbrev S512 : Shape := ⟨1, ![512]⟩
abbrev S1x512 : Shape := ⟨2, ![1, 512]⟩
abbrev S512x512 : Shape := ⟨2, ![512, 512]⟩
abbrev S512x65536 : Shape := ⟨2, ![512, 65536]⟩
abbrev S32768x512 : Shape := ⟨2, ![32768, 512]⟩
abbrev S32768 : Shape := ⟨1, ![32768]⟩
abbrev S4096x8 : Shape := ⟨2, ![4096, 8]⟩
abbrev S1x4096 : Shape := ⟨2, ![1, 4096]⟩

abbrev nBuf : Space → Nat
  | .hbm => 114
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x4096, .f32⟩
  | .hbm, ⟨40, _⟩ => ⟨S8192x4096, .f32⟩
  | .hbm, ⟨41, _⟩ => ⟨S65536x512, .f32⟩
  | .hbm, ⟨42, _⟩ => ⟨S_, .f32⟩
  | .hbm, ⟨43, _⟩ => ⟨S512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S1x512, .f32⟩
  | .hbm, ⟨48, _⟩ => ⟨S65536x512, .f32⟩
  | .hbm, ⟨49, _⟩ => ⟨S65536x512, .f32⟩
  | .hbm, ⟨50, _⟩ => ⟨S512x512, .i32⟩
  | .hbm, ⟨51, _⟩ => ⟨S512x512, .i32⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S512x512, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S512x65536, .f32⟩
  | .hbm, ⟨61, _⟩ => ⟨S512x512, .f32⟩
  | .hbm, ⟨62, _⟩ => ⟨S_, .f32⟩
  | .hbm, ⟨63, _⟩ => ⟨S512x512, .f32⟩
  | .hbm, ⟨64, _⟩ => ⟨S512x512, .f32⟩
  | .hbm, ⟨65, _⟩ => ⟨S512x512, .f32⟩
  | .hbm, ⟨66, _⟩ => ⟨S512x512, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S512x512, .i32⟩
  | .hbm, ⟨71, _⟩ => ⟨S512x512, .i32⟩
  | .hbm, ⟨72, _⟩ => ⟨S_, .i32⟩
  | .hbm, ⟨73, _⟩ => ⟨S512x512, .i32⟩
  | .hbm, ⟨74, _⟩ => ⟨S512x512, .i32⟩
  | .hbm, ⟨75, _⟩ => ⟨S512x512, .i1⟩
  | .hbm, ⟨76, _⟩ => ⟨S512x512, .f32⟩
  | .hbm, ⟨77, _⟩ => ⟨S512x512, .f32⟩
  | .hbm, ⟨78, _⟩ => ⟨S512x512, .f32⟩
  | .hbm, ⟨79, _⟩ => ⟨S_, .i32⟩
  | .hbm, ⟨80, _⟩ => ⟨S512x512, .f32⟩
  | .hbm, ⟨81, _⟩ => ⟨S_, .i32⟩
  | .hbm, ⟨82, _⟩ => ⟨S512x512, .f32⟩
  | .hbm, ⟨83, _⟩ => ⟨S512x512, .f32⟩
  | .hbm, ⟨84, _⟩ => ⟨S_, .i32⟩
  | .hbm, ⟨85, _⟩ => ⟨S_, .i1⟩
  | .hbm, ⟨86, _⟩ => ⟨S_, .f32⟩
  | .hbm, ⟨87, _⟩ => ⟨S512x512, .f32⟩
  | .hbm, ⟨88, _⟩ => ⟨S512x512, .f32⟩
  | .hbm, ⟨89, _⟩ => ⟨S512x512, .f32⟩
  | .hbm, ⟨90, _⟩ => ⟨S_, .f32⟩
  | .hbm, ⟨91, _⟩ => ⟨S512x512, .f32⟩
  | .hbm, ⟨92, _⟩ => ⟨S512x512, .f32⟩
  | .hbm, ⟨93, _⟩ => ⟨S512x512, .f32⟩
  | .hbm, ⟨94, _⟩ => ⟨S512x512, .f32⟩
  | .hbm, ⟨95, _⟩ => ⟨S512x512, .f32⟩
  | .hbm, ⟨96, _⟩ => ⟨S_, .i32⟩
  | .hbm, ⟨97, _⟩ => ⟨S_, .i32⟩
  | .hbm, ⟨98, _⟩ => ⟨S_, .f32⟩
  | .hbm, ⟨99, _⟩ => ⟨S512x512, .f32⟩
  | .hbm, ⟨100, _⟩ => ⟨S512x512, .f32⟩
  | .hbm, ⟨101, _⟩ => ⟨S32768x512, .f32⟩
  | .hbm, ⟨102, _⟩ => ⟨S32768x512, .f32⟩
  | .hbm, ⟨103, _⟩ => ⟨S32768, .f32⟩
  | .hbm, ⟨104, _⟩ => ⟨S4096x8, .f32⟩
  | .hbm, ⟨105, _⟩ => ⟨S_, .f32⟩
  | .hbm, ⟨106, _⟩ => ⟨S4096, .f32⟩
  | .hbm, ⟨107, _⟩ => ⟨S4096, .f32⟩
  | .hbm, ⟨108, _⟩ => ⟨S4096x4096, .f32⟩
  | .hbm, ⟨109, _⟩ => ⟨S4096x4096, .f32⟩
  | .hbm, ⟨110, _⟩ => ⟨S8192x4096, .f32⟩
  | .hbm, ⟨111, _⟩ => ⟨S1x4096, .f32⟩
  | .hbm, ⟨112, _⟩ => ⟨S8192x4096, .f32⟩
  | .hbm, ⟨113, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_call1_v0 : Ref sig .tc := ⟨.hbm, 66, rfl⟩
abbrev main_call1_cst : Ref sig .tc := ⟨.hbm, 67, rfl⟩
abbrev main_call1_v1 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c_7 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_c_8 : Ref sig .tc := ⟨.hbm, 79, rfl⟩
abbrev main_v41_0 : Ref sig .tc := ⟨.hbm, 80, rfl⟩
abbrev main_v41_1 : Ref sig .tc := ⟨.hbm, 81, rfl⟩
abbrev main_v41_2 : Ref sig .tc := ⟨.hbm, 82, rfl⟩
abbrev main_v41_3 : Ref sig .tc := ⟨.hbm, 83, rfl⟩
abbrev main_while0c_c_13 : Ref sig .tc := ⟨.hbm, 84, rfl⟩
abbrev main_while0c_v57 : Ref sig .tc := ⟨.hbm, 85, rfl⟩
abbrev main_while0b_cst_13 : Ref sig .tc := ⟨.hbm, 86, rfl⟩
abbrev main_while0b_v57 : Ref sig .tc := ⟨.hbm, 87, rfl⟩
abbrev main_while0b_v58 : Ref sig .tc := ⟨.hbm, 88, rfl⟩
abbrev main_while0b_v59 : Ref sig .tc := ⟨.hbm, 89, rfl⟩
abbrev main_while0b_cst_14 : Ref sig .tc := ⟨.hbm, 90, rfl⟩
abbrev main_while0b_v60 : Ref sig .tc := ⟨.hbm, 91, rfl⟩
abbrev main_while0b_v61 : Ref sig .tc := ⟨.hbm, 92, rfl⟩
abbrev main_while0b_v62 : Ref sig .tc := ⟨.hbm, 93, rfl⟩
abbrev main_while0b_v63 : Ref sig .tc := ⟨.hbm, 94, rfl⟩
abbrev main_while0b_v64 : Ref sig .tc := ⟨.hbm, 95, rfl⟩
abbrev main_while0b_c_15 : Ref sig .tc := ⟨.hbm, 96, rfl⟩
abbrev main_while0b_v65 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_cst_9 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩

abbrev nD : Nat := 1
abbrev τ : Topo := Topo.v7x

variable {F : FTy → Type} [FloatOps F]

abbrev main_while0_count : Scf.Loop 32 := ⟨0#32, 5#32, 1#32⟩
-- ==== Proof.KernelIdeal.Stats.lean ====
/- Region 0 of the kernel (`ln_stats`): the triple of its body, its proof data over any contents `W` of the arrays at entry,
   and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.VecWindow
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.KernelIdeal.Stats

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- `W`: what the arrays hold when the region is entered, per core.
variable (W : Dev nD → Valuation τ sig (Elt F))

abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1

abbrev rA : Rect S512x4096 := Rect.unit (s := S512x4096) ![0, 0] S256x4096.size inb_S512x4096_S256x4096_0_0
abbrev rB : Rect S512x4096 := Rect.unit (s := S512x4096) ![256, 0] S256x4096.size inb_S512x4096_S256x4096_256_0
abbrev rR : Rect S8x4096 := Rect.unit (s := S8x4096) ![0, 0] S1x4096.size inb_S8x4096_S1x4096_0_0
abbrev rG : Rect S512x512 := Rect.unit (s := S512x512) ![0, 0] S512x512.size inb_S512x512_S512x512_0_0

/-- The normalised rows of one block. -/
def xnOut (x : Vec F S512x4096 .f32) : Vec F S512x4096 .bf16 :=
  View.canon [⟨rB, k0_pay14 (View.ld x rB)⟩, ⟨rA, k0_pay9 (View.ld x rA)⟩]

/-- The running Gram matrix after one block. -/
def gramOut (x : Vec F S512x4096 .f32) (g : Vec F S512x512 .f32) : Vec F S512x512 .f32 :=
  k0_pay1 (k0_pay14 (View.ld x rB)) (k0_pay15 (k0_pay9 (View.ld x rA)) (k0_pay10 g (View.ld x rA)) (k0_pay11 (View.ld x rA)) (constant S512x512 .f32 0x00000000#32) (View.ld x rB)) (k0_pay16 (View.ld x rB))

/-- Row 0 of the running column sums after one block. -/
def rowOut (x : Vec F S512x4096 .f32) (cs : Vec F S8x4096 .f32) : Vec F S1x4096 .f32 :=
  k0_pay2 (k0_pay12 (k0_pay7 (F := F)) (k0_pay8 (View.ld x rA))) (k0_pay13 (View.ld x rB)) (View.ld cs rR)

/-- The running column sums after one block. -/
def csOut (x : Vec F S512x4096 .f32) (cs : Vec F S8x4096 .f32) : Vec F S8x4096 .f32 :=
  VecWindow.put cs ![0, 0] S1x4096.size (rowOut x cs)

/-- The column sums as the last point leaves them. -/
def csLast (x : Vec F S512x4096 .f32) (cs : Vec F S8x4096 .f32) : Vec F S8x4096 .f32 :=
  VecWindow.put (csOut x cs) ![0, 0] S1x512.size (k0_pay3 (rowOut x cs))

/-- The mean row, stored at the last point. -/
def meanOut (x : Vec F S512x4096 .f32) (cs : Vec F S8x4096 .f32) : Vec F S1x4096 .bf16 := k0_pay4 (rowOut x cs)

/-- The body's two stores of normalised rows cover the block. -/
theorem cover (p q : Vec F S256x4096 .bf16) (y : S512x4096.Idx) :
    ∃ pc ∈ ([⟨rB, p⟩, ⟨rA, q⟩] : List (View.Piece (Elt F) S512x4096 .bf16)), y ∈ pc.1.set :=
  View.cover_of_tiled [⟨rB, p⟩, ⟨rA, q⟩] S256x4096.size (by rfl) y

/-- Equal contents and equal payloads give equal results of a store. -/
theorem put_congr {α : Type} {s : Shape} {x x' : s.Idx → α} {off size : Fin s.rank → ℕ} {w w' : ((a : Fin s.rank) → Fin (size a)) → α}
    (hx : x = x') (hw : w = w') : VecWindow.put x off size w = VecWindow.put x' off size w' := by rw [hx, hw]

/-- A load of row 0 right after a store of row 0 reads the stored row. -/
theorem read_row (v : View sig .tc .vmem S8x4096 .f32) (f : v.ty.Contents (Elt F)) (w : Vec F S1x4096 .f32)
    (L : List (View.Piece (Elt F) S8x4096 .f32)) :
    v.readAt (Elt F) rR.toLoadRect (v.writes (Elt F) f (⟨rR, w⟩ :: L)) = w := by
  have e := View.read_writes_cons_put v f inb_S8x4096_S1x4096_0_0 w L rfl
  have h := View.readAt_unit v (v.writes (Elt F) f (⟨rR, w⟩ :: L)) inb_S8x4096_S1x4096_0_0 rfl inb_S8x4096_S1x4096_0_0
  rw [e] at h
  exact h.trans (VecWindow.window_put_same _ _ _ _ _)

/-- A load of row 0 after a store of the whole buffer reads row 0 of what was stored. -/
theorem read_row_full (v : View sig .tc .vmem S8x4096 .f32) (f : v.ty.Contents (Elt F)) (w : Vec F S8x4096 .f32)
    (L : List (View.Piece (Elt F) S8x4096 .f32)) :
    v.readAt (Elt F) rR.toLoadRect (v.writes (Elt F) f (⟨Rect.unit (s := S8x4096) ![0, 0] S8x4096.size inb_S8x4096_S8x4096_0_0, w⟩ :: L)) = View.ld w rR := by
  have e := View.read_writes_full v f inb_S8x4096_S8x4096_0_0 w L
  have h := View.readAt_unit v (v.writes (Elt F) f (⟨Rect.unit (s := S8x4096) ![0, 0] S8x4096.size inb_S8x4096_S8x4096_0_0, w⟩ :: L)) inb_S8x4096_S1x4096_0_0 rfl inb_S8x4096_S1x4096_0_0
  rw [e] at h
  exact h

theorem runC (c : Dev nD) (E : Set ℕ) (i : grid0.Coords) (arg1 : Memref sig .tc .vmem S512x4096 .f32) (harg1 : arg1.IsWhole) (arg2 : Memref sig .tc .vmem S512x4096 .bf16) (harg2 : arg2.IsWhole) (arg3 : Memref sig .tc .vmem S512x512 .f32) (harg3 : arg3.IsWhole) (arg4 : Memref sig .tc .vmem S1x4096 .bf16) (harg4 : arg4.IsWhole) (arg5 : Memref sig .tc .vmem S8x4096 .f32) (harg5 : arg5.IsWhole) (hc0 : ¬cond0 i) (hc1 : cond1 i)
    (x : Vec F S512x4096 .f32) (g : Vec F S512x512 .f32) (cs : Vec F S8x4096 .f32) (K : PUnit → sProp 𝕄) :
    iprop(owns (c : Thread nD τ) arg1 fullShare x ∗ (∃ d, owns (c : Thread nD τ) arg2 fullShare d) ∗ owns (c : Thread nD τ) arg3 fullShare g ∗ (∃ d, owns (c : Thread nD τ) arg4 fullShare d) ∗ owns (c : Thread nD τ) arg5 fullShare cs
        ∗ (iprop(owns (c : Thread nD τ) arg1 fullShare x ∗ owns (c : Thread nD τ) arg2 fullShare (xnOut x) ∗ owns (c : Thread nD τ) arg3 fullShare (gramOut x g) ∗ owns (c : Thread nD τ) arg4 fullShare (meanOut x cs) ∗ owns (c : Thread nD τ) arg5 fullShare (csLast x cs)) -∗ K ⟨⟩))
      ⊢ wp frame (wpE (defs₀ (F := F)) Variants.none c none) E (cc0_ln_stats i arg1 harg1 arg2 harg2 arg3 harg3 arg4 harg4 arg5 harg5) K := by
  simp only [cc0_ln_stats_eq_skeleton]; unfold cc0_ln_stats_skel
  simp only [k0_part1_eq_skeleton, k0_part2_eq_skeleton]
  unfold owns
  iintro ⟨⟨%f0, %hf0, H0⟩, ⟨%d1, %f1, -, H1⟩, ⟨%f2, %hf2, H2⟩, ⟨%d3, %f3, -, H3⟩, ⟨%f4, %hf4, H4⟩, Hk⟩
  subst hf0 hf2 hf4
  sl_exec (disch := first | sl_exact hc0 | sl_exact hc1)
  sl_step
  iapply Hk
  isplitl [H0]
  · iexists f0; isplitr; · ipureintro; rfl
    iexact H0
  isplitl [H1]
  · iexists _; isplitr
    swap; · iexact H1
    ipureintro
    exact View.read_writes_eq_canon _ _ _ (cover _ _)
  isplitl [H2]
  · iexists _; isplitr
    swap; · iexact H2
    ipureintro
    refine (View.read_writes_full arg3.view f2 inb_S512x512_S512x512_0_0 _ _).trans ?_
    exact congrArg (fun g => gramOut (arg1.view.read (Elt F) f0) g) (View.readAt_full arg3.view f2 inb_S512x512_S512x512_0_0)
  isplitl [H3]
  · iexists _; isplitr
    swap; · iexact H3
    ipureintro
    refine (View.read_writes_full arg4.view f3 inb_S1x4096_S1x4096_0_0 _ []).trans ?_
    unfold meanOut
    refine congrArg (k0_pay4 (F := F)) ?_
    unfold runC.sl.v106
    exact read_row arg5.view arg5.view.junk _ []
  · iexists _; isplitr
    swap; · iexact H4
    ipureintro
    refine (View.read_writes_cons_put arg5.view f4 inb_S8x4096_S1x512_0_0 _ _ rfl).trans ?_
    unfold csLast csOut
    have e1 : k0_pay3 (runC.sl.v106 c arg1 arg5 f0 f4) = k0_pay3 (rowOut (arg1.view.read (Elt F) f0) (arg5.view.read (Elt F) f4)) := by
      refine congrArg (k0_pay3 (F := F)) ?_
      unfold runC.sl.v106
      exact read_row arg5.view arg5.view.junk _ []
    have e2 := View.read_writes_cons_put arg5.view f4 inb_S8x4096_S1x4096_0_0 (rowOut (arg1.view.read (Elt F) f0) (arg5.view.read (Elt F) f4)) [] rfl
    exact put_congr e2 e1

theorem runB (c : Dev nD) (E : Set ℕ) (i : grid0.Coords) (arg1 : Memref sig .tc .vmem S512x4096 .f32) (harg1 : arg1.IsWhole) (arg2 : Memref sig .tc .vmem S512x4096 .bf16) (harg2 : arg2.IsWhole) (arg3 : Memref sig .tc .vmem S512x512 .f32) (harg3 : arg3.IsWhole) (arg4 : Memref sig .tc .vmem S1x4096 .bf16) (harg4 : arg4.IsWhole) (arg5 : Memref sig .tc .vmem S8x4096 .f32) (harg5 : arg5.IsWhole) (hc0 : ¬cond0 i) (hc1 : ¬cond1 i)
    (x : Vec F S512x4096 .f32) (g : Vec F S512x512 .f32) (cs : Vec F S8x4096 .f32) (mf : Vec F S1x4096 .bf16) (K : PUnit → sProp 𝕄) :
    iprop(owns (c : Thread nD τ) arg1 fullShare x ∗ (∃ d, owns (c : Thread nD τ) arg2 fullShare d) ∗ owns (c : Thread nD τ) arg3 fullShare g ∗ owns (c : Thread nD τ) arg4 fullShare mf ∗ owns (c : Thread nD τ) arg5 fullShare cs
        ∗ (iprop(owns (c : Thread nD τ) arg1 fullShare x ∗ owns (c : Thread nD τ) arg2 fullShare (xnOut x) ∗ owns (c : Thread nD τ) arg3 fullShare (gramOut x g) ∗ owns (c : Thread nD τ) arg4 fullShare mf ∗ owns (c : Thread nD τ) arg5 fullShare (csOut x cs)) -∗ K ⟨⟩))
      ⊢ wp frame (wpE (defs₀ (F := F)) Variants.none c none) E (cc0_ln_stats i arg1 harg1 arg2 harg2 arg3 harg3 arg4 harg4 arg5 harg5) K := by
  simp only [cc0_ln_stats_eq_skeleton]; unfold cc0_ln_stats_skel
  simp only [k0_part1_eq_skeleton, k0_part2_eq_skeleton]
  unfold owns
  iintro ⟨⟨%f0, %hf0, H0⟩, ⟨%d1, %f1, -, H1⟩, ⟨%f2, %hf2, H2⟩, ⟨%f3, %hf3, H3⟩, ⟨%f4, %hf4, H4⟩, Hk⟩
  subst hf0 hf2 hf3 hf4
  sl_exec (disch := first | sl_exact hc0 | sl_exact hc1)
  sl_step
  iapply Hk
  isplitl [H0]
  · iexists f0; isplitr; · ipureintro; rfl
    iexact H0
  isplitl [H1]
  · iexists _; isplitr
    swap; · iexact H1
    ipureintro
    exact View.read_writes_eq_canon _ _ _ (cover _ _)
  isplitl [H2]
  · iexists _; isplitr
    swap; · iexact H2
    ipureintro
    refine (View.read_writes_full arg3.view f2 inb_S512x512_S512x512_0_0 _ _).trans ?_
    exact congrArg (fun g => gramOut (arg1.view.read (Elt F) f0) g) (View.readAt_full arg3.view f2 inb_S512x512_S512x512_0_0)
  isplitl [H3]
  · iexists _; isplitr
    swap; · iexact H3
    ipureintro
    rfl
  · iexists _; isplitr
    swap; · iexact H4
    ipureintro
    exact View.read_writes_cons_put arg5.view f4 inb_S8x4096_S1x4096_0_0 _ [] rfl

theorem runA (c : Dev nD) (E : Set ℕ) (i : grid0.Coords) (arg1 : Memref sig .tc .vmem S512x4096 .f32) (harg1 : arg1.IsWhole) (arg2 : Memref sig .tc .vmem S512x4096 .bf16) (harg2 : arg2.IsWhole) (arg3 : Memref sig .tc .vmem S512x512 .f32) (harg3 : arg3.IsWhole) (arg4 : Memref sig .tc .vmem S1x4096 .bf16) (harg4 : arg4.IsWhole) (arg5 : Memref sig .tc .vmem S8x4096 .f32) (harg5 : arg5.IsWhole) (hc0 : cond0 i) (hc1 : ¬cond1 i)
    (x : Vec F S512x4096 .f32) (mf : Vec F S1x4096 .bf16) (K : PUnit → sProp 𝕄) :
    iprop(owns (c : Thread nD τ) arg1 fullShare x ∗ (∃ d, owns (c : Thread nD τ) arg2 fullShare d) ∗ (∃ d, owns (c : Thread nD τ) arg3 fullShare d) ∗ owns (c : Thread nD τ) arg4 fullShare mf ∗ (∃ d, owns (c : Thread nD τ) arg5 fullShare d)
        ∗ (iprop(owns (c : Thread nD τ) arg1 fullShare x ∗ owns (c : Thread nD τ) arg2 fullShare (xnOut x) ∗ owns (c : Thread nD τ) arg3 fullShare (gramOut x (k0_pay5 (F := F))) ∗ owns (c : Thread nD τ) arg4 fullShare mf ∗ owns (c : Thread nD τ) arg5 fullShare (csOut x (k0_pay6 (F := F)))) -∗ K ⟨⟩))
      ⊢ wp frame (wpE (defs₀ (F := F)) Variants.none c none) E (cc0_ln_stats i arg1 harg1 arg2 harg2 arg3 harg3 arg4 harg4 arg5 harg5) K := by
  simp only [cc0_ln_stats_eq_skeleton]; unfold cc0_ln_stats_skel
  simp only [k0_part1_eq_skeleton, k0_part2_eq_skeleton]
  unfold owns
  iintro ⟨⟨%f0, %hf0, H0⟩, ⟨%d1, %f1, -, H1⟩, ⟨%d2, %f2, -, H2⟩, ⟨%f3, %hf3, H3⟩, ⟨%d4, %f4, -, H4⟩, Hk⟩
  subst hf0 hf3
  sl_exec (disch := first | sl_exact hc0 | sl_exact hc1)
  sl_step
  iapply Hk
  isplitl [H0]
  · iexists f0; isplitr; · ipureintro; rfl
    iexact H0
  isplitl [H1]
  · iexists _; isplitr
    swap; · iexact H1
    ipureintro
    exact View.read_writes_eq_canon _ _ _ (cover _ _)
  isplitl [H2]
  · iexists _; isplitr
    swap; · iexact H2
    ipureintro
    refine (View.read_writes_full arg3.view f2 inb_S512x512_S512x512_0_0 _ _).trans ?_
    exact congrArg (fun g => gramOut (arg1.view.read (Elt F) f0) g) (View.readCov_full arg3.view inb_S512x512_S512x512_0_0 inb_S512x512_S512x512_0_0 _ [])
  isplitl [H3]
  · iexists _; isplitr
    swap; · iexact H3
    ipureintro
    rfl
  · iexists _; isplitr
    swap; · iexact H4
    ipureintro
    refine (View.read_writes_cons_put arg5.view f4 inb_S8x4096_S1x4096_0_0 _ _ rfl).trans ?_
    have e1 : k0_pay2 (runA.sl.r_4 c arg1 f0) (runA.sl.r_5 c arg1 f0) (runA.sl.v99 c arg5) = rowOut (arg1.view.read (Elt F) f0) (k0_pay6 (F := F)) := by
      refine congrArg (k0_pay2 (F := F) _ _) ?_
      unfold runA.sl.v99
      exact read_row_full arg5.view arg5.view.junk _ []
    have e2 := View.read_writes_full arg5.view f4 inb_S8x4096_S8x4096_0_0 (k0_pay6 (F := F)) []
    exact put_congr e2 e1

/-! ## Where the windows are idle, and which case a point is -/

theorem hcond0 : ∀ t : Fin cfg0.N, cond0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0, e0]
    word_cmp
   : ∀ t : Fin grid0.N, cond0 (grid0.coords t) ↔ t.val % 16 = 0)

theorem hcond1 : ∀ t : Fin cfg0.N, cond1 (grid0.coords t) ↔ t.val % 16 = 15 :=
  (by decide +kernel : ∀ t : Fin grid0.N, cond1 (grid0.coords t) ↔ t.val % 16 = 15)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_4 : ∀ t : Fin cfg0.N, cfg0.idle 4 (grid0.coords t) = false := fun _ => rfl
theorem live_3 : ∀ t : Fin cfg0.N, cond1 (grid0.coords t) → cfg0.idle 3 (grid0.coords t) = false := by decide +kernel
theorem idle_3 : ∀ t : Fin cfg0.N, ¬cond1 (grid0.coords t) → cfg0.idle 3 (grid0.coords t) = true := by decide +kernel
theorem noFlush_3 : ∀ t : Fin cfg0.N, ¬cond1 (grid0.coords t) → (cfg0.win 3).flush t = false := by decide +kernel
theorem noFlush_2 : ∀ t : Fin cfg0.N, ¬cond1 (grid0.coords t) → (cfg0.win 2).flush t = false := by decide +kernel
theorem noFlush_4 : ∀ t : Fin cfg0.N, ¬cond1 (grid0.coords t) → (cfg0.win 4).flush t = false := by decide +kernel

/-! ## The proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The input window's staging buffer holds its block at every point. -/
theorem before_0_of {c : Dev nD} (dat : Dat τ (Elt F) Unit ℕ (UR sig nD τ) ℕ cfg0 c) (hA : dat.A 0 = W c (Proc.devRef .tc (Pipeline.arrRef spec0 0)))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The Gram matrix and the column sums after point `n`, the last point's closing stores left out. -/
def accAt (c : Dev nD) : (n : ℕ) → n < cfg0.N → Vec F S512x512 .f32 × Vec F S8x4096 .f32
  | 0, h => (gramOut (iblk W c 0 ⟨0, h⟩) (k0_pay5 (F := F)), csOut (iblk W c 0 ⟨0, h⟩) (k0_pay6 (F := F)))
  | n + 1, h => (gramOut (iblk W c 0 ⟨n + 1, h⟩) (accAt c n (Nat.lt_of_succ_lt h)).1, csOut (iblk W c 0 ⟨n + 1, h⟩) (accAt c n (Nat.lt_of_succ_lt h)).2)

/-- What the point before `t` left. -/
def prevAt (c : Dev nD) (t : Fin cfg0.N) : Vec F S512x512 .f32 × Vec F S8x4096 .f32 := accAt W c (t.val - 1) (by have := t.isLt; omega)

theorem accAt_zero (c : Dev nD) (t : Fin cfg0.N) (h : t.val = 0) :
    accAt W c t.val t.isLt = (gramOut (iblk W c 0 t) (k0_pay5 (F := F)), csOut (iblk W c 0 t) (k0_pay6 (F := F))) := by
  obtain ⟨n, hn⟩ := t
  subst h; rfl

theorem accAt_pos (c : Dev nD) (t : Fin cfg0.N) (h : t.val ≠ 0) :
    accAt W c t.val t.isLt = (gramOut (iblk W c 0 t) (prevAt W c t).1, csOut (iblk W c 0 t) (prevAt W c t).2) := by
  obtain ⟨n, hn⟩ := t
  cases n with
  | zero => exact absurd rfl h
  | succ n => rfl

/-- What the column sums' buffer holds after point `t`. -/
def csAfter (c : Dev nD) (t : Fin cfg0.N) : Vec F S8x4096 .f32 :=
  if t.val = 15 then csLast (iblk W c 0 t) (prevAt W c t).2 else (accAt W c t.val t.isLt).2

/-- The proof data of the region on core `c`. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => xnOut (iblk W c 0 t)
    | ⟨2, _⟩ => (accAt W c t.val t.isLt).1
    | ⟨3, _⟩ => meanOut (iblk W c 0 t) (prevAt W c t).2
    | ⟨4, _⟩ => csAfter W c t
  Φ _ := Pipeline.ΦA spec0 c
  q _ := fullShare
  owed _ := 0

theorem A_eq (c : Dev nD) (w : Fin cfg0.W) : (dat W c).A w = W c (Proc.devRef .tc (Pipeline.arrRef spec0 w)) := by
  dsimp only [dat]

theorem after_0 (c : Dev nD) (t : Fin cfg0.N) : (dat W c).after 0 t = iblk W c 0 t := by dsimp only [dat]
theorem after_1 (c : Dev nD) (t : Fin cfg0.N) : (dat W c).after 1 t = xnOut (iblk W c 0 t) := by dsimp only [dat]
theorem after_2 (c : Dev nD) (t : Fin cfg0.N) : (dat W c).after 2 t = (accAt W c t.val t.isLt).1 := by dsimp only [dat]
theorem after_3 (c : Dev nD) (t : Fin cfg0.N) : (dat W c).after 3 t = meanOut (iblk W c 0 t) (prevAt W c t).2 := by dsimp only [dat]
theorem after_4 (c : Dev nD) (t : Fin cfg0.N) : (dat W c).after 4 t = csAfter W c t := by dsimp only [dat]

theorem before_0 (c : Dev nD) (t : Fin cfg0.N) (d) : (dat W c).before 0 t d = iblk W c 0 t :=
  before_0_of W (dat W c) (A_eq W c 0) (after_0 W c) t d

/-- After the first point the accumulating windows hold what the point before left. -/
theorem before_2 (c : Dev nD) (t : Fin cfg0.N) (ht : t.val ≠ 0) (d) : (dat W c).before 2 t d = (prevAt W c t).1 := by
  have h16 : t.val < 16 := Nat.lt_of_lt_of_eq t.isLt N_0
  exact (dat W c).before_out_kept 2 rfl t ht
    (noFlush_2 _ (fun h => by have := (hcond1 _).mp h; dsimp only at this; omega)) (fun _ => rfl) (fun _ _ => rfl) d

theorem before_4 (c : Dev nD) (t : Fin cfg0.N) (ht : t.val ≠ 0) (d) : (dat W c).before 4 t d = (prevAt W c t).2 := by
  have h16 : t.val < 16 := Nat.lt_of_lt_of_eq t.isLt N_0
  refine ((dat W c).before_out_kept 4 rfl t ht
    (noFlush_4 _ (fun h => by have := (hcond1 _).mp h; dsimp only at this; omega)) (fun _ => rfl) (fun _ _ => rfl) d).trans ?_
  rw [after_4]; unfold csAfter prevAt
  exact if_neg (by dsimp only; omega)

/-- What the body is called with at a point, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d)))

/-- and what it returns. -/
def bodyPost (c : Dev nD) (t : Fin cfg0.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t ∗ (dat W c).leavesExact 4 t)

/-- The body at any point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0]
  have h16 : t.val < 16 := Nat.lt_of_lt_of_eq t.isLt N_0
  rw [show (dat W c).Φ t.succ = (dat W c).Φ t.castSucc from rfl,
    show (dat W c).owesAt () t.succ = (dat W c).owesAt () t.castSucc from rfl,
    show (dat W c).leavesExact 0 t = owns (c : Thread nD τ) (st0_0 t) fullShare ((dat W c).after 0 t) from by
      unfold Dat.leavesExact; rw [live_0 t],
    show (dat W c).leavesExact 1 t = owns (c : Thread nD τ) (st0_1 t) fullShare ((dat W c).after 1 t) from by
      unfold Dat.leavesExact; rw [live_1 t],
    show (dat W c).leavesExact 2 t = owns (c : Thread nD τ) (st0_2 t) fullShare ((dat W c).after 2 t) from by
      unfold Dat.leavesExact; rw [live_2 t],
    show (dat W c).leavesExact 4 t = owns (c : Thread nD τ) (st0_4 t) fullShare ((dat W c).after 4 t) from by
      unfold Dat.leavesExact; rw [live_4 t],
    after_0, after_1, after_2, after_4]
  by_cases h1 : t.val = 15
  · have hc1 := (hcond1 t).mpr (by omega)
    have hc0 : ¬cond0 (grid0.coords t) := fun h => by have := (hcond0 t).mp h; omega
    have hz : t.val ≠ 0 := by omega
    simp only [before_2 W c t hz, before_4 W c t hz]
    rw [show (dat W c).leavesExact 3 t = owns (c : Thread nD τ) (st0_3 t) fullShare ((dat W c).after 3 t) from by
      unfold Dat.leavesExact; rw [live_3 t hc1], after_3, accAt_pos W c t hz, show csAfter W c t = _ from if_pos h1]
    iintro ⟨HΦ, Ho, ⟨%d0, H0⟩, ⟨%d1, H1⟩, ⟨%d2, H2⟩, ⟨%d3, H3⟩, ⟨%d4, H4⟩⟩
    iapply (runC c Set.univ (grid0.coords t) _ _ _ _ _ _ _ _ _ _ hc0 hc1 (iblk W c 0 t) (prevAt W c t).1 (prevAt W c t).2 _)
    isplitl [H0]; · iexact H0
    isplitl [H1]; · iexists _; iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hc1 : ¬cond1 (grid0.coords t) := fun h => by have := (hcond1 t).mp h; omega
    rw [Dat.leavesExact_idle (dat W c) 3 t (idle_3 t hc1) (noFlush_3 t hc1), show csAfter W c t = _ from if_neg h1]
    by_cases hz : t.val = 0
    · have hc0 := (hcond0 t).mpr (by omega)
      rw [accAt_zero W c t hz]
      iintro ⟨HΦ, Ho, ⟨%d0, H0⟩, ⟨%d1, H1⟩, ⟨%d2, H2⟩, ⟨%d3, H3⟩, ⟨%d4, H4⟩⟩
      iapply (runA c Set.univ (grid0.coords t) _ _ _ _ _ _ _ _ _ _ hc0 hc1 (iblk W c 0 t) ((dat W c).before 3 t d3) _)
      isplitl [H0]; · iexact H0
      isplitl [H1]; · iexists _; iexact H1
      isplitl [H2]; · iexists _; iexact H2
      isplitl [H3]; · iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexists _; iexact H3
      iexact H4
    · have hc0 : ¬cond0 (grid0.coords t) := fun h => by have := (hcond0 t).mp h; omega
      simp only [before_2 W c t hz, before_4 W c t hz]
      rw [accAt_pos W c t hz]
      iintro ⟨HΦ, Ho, ⟨%d0, H0⟩, ⟨%d1, H1⟩, ⟨%d2, H2⟩, ⟨%d3, H3⟩, ⟨%d4, H4⟩⟩
      iapply (runB c Set.univ (grid0.coords t) _ _ _ _ _ _ _ _ _ _ hc0 hc1 (iblk W c 0 t) (prevAt W c t).1 (prevAt W c t).2 ((dat W c).before 3 t d3) _)
      isplitl [H0]; · iexact H0
      isplitl [H1]; · iexists _; iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexists _; iexact H3
      iexact H4

/-- The region's row of the body table is its body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.Stats

end
-- ==== Proof.KernelIdeal.Ns.lean ====
/- Region 1 of the kernel (`ns_wx`): the triple of its body, its proof data over any contents `W` of the arrays at entry,
   and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.VecWindow
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.KernelIdeal.Ns

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- `W`: what the arrays hold when the region is entered, per core.
variable (W : Dev nD → Valuation τ sig (Elt F))

abbrev cond0 (i : grid1.Coords) : Prop := (Scalar.cmpi .ne (Scalar.extui (Scalar.cmpi .eq (BitVec.ofNat 32 (i 0).val) 0#32)) 0#32) = 1#1
abbrev cond1 (i : grid1.Coords) : Prop := k1_cond2 i = 1#1

abbrev rG : Rect S512x512 := Rect.unit (s := S512x512) ![0, 0] S512x512.size inb_S512x512_S512x512_0_0
abbrev rS : Rect S8x4096 := Rect.unit (s := S8x4096) ![0, 0] S1x512.size inb_S8x4096_S1x512_0_0
abbrev rW0 : Rect S512x4096 := Rect.unit (s := S512x4096) ![0, 0] S512x512.size inb_S512x4096_S512x512_0_0
abbrev rO0 : Rect S4096x512 := Rect.unit (s := S4096x512) ![0, 0] S512x512.size inb_S4096x512_S512x512_0_0
abbrev rW1 : Rect S512x4096 := Rect.unit (s := S512x4096) ![0, 512] S512x512.size inb_S512x4096_S512x512_0_512
abbrev rO1 : Rect S4096x512 := Rect.unit (s := S4096x512) ![512, 0] S512x512.size inb_S4096x512_S512x512_512_0
abbrev rW2 : Rect S512x4096 := Rect.unit (s := S512x4096) ![0, 1024] S512x512.size inb_S512x4096_S512x512_0_1024
abbrev rO2 : Rect S4096x512 := Rect.unit (s := S4096x512) ![1024, 0] S512x512.size inb_S4096x512_S512x512_1024_0
abbrev rW3 : Rect S512x4096 := Rect.unit (s := S512x4096) ![0, 1536] S512x512.size inb_S512x4096_S512x512_0_1536
abbrev rO3 : Rect S4096x512 := Rect.unit (s := S4096x512) ![1536, 0] S512x512.size inb_S4096x512_S512x512_1536_0
abbrev rW4 : Rect S512x4096 := Rect.unit (s := S512x4096) ![0, 2048] S512x512.size inb_S512x4096_S512x512_0_2048
abbrev rO4 : Rect S4096x512 := Rect.unit (s := S4096x512) ![2048, 0] S512x512.size inb_S4096x512_S512x512_2048_0
abbrev rW5 : Rect S512x4096 := Rect.unit (s := S512x4096) ![0, 2560] S512x512.size inb_S512x4096_S512x512_0_2560
abbrev rO5 : Rect S4096x512 := Rect.unit (s := S4096x512) ![2560, 0] S512x512.size inb_S4096x512_S512x512_2560_0
abbrev rW6 : Rect S512x4096 := Rect.unit (s := S512x4096) ![0, 3072] S512x512.size inb_S512x4096_S512x512_0_3072
abbrev rO6 : Rect S4096x512 := Rect.unit (s := S4096x512) ![3072, 0] S512x512.size inb_S4096x512_S512x512_3072_0
abbrev rW7 : Rect S512x4096 := Rect.unit (s := S512x4096) ![0, 3584] S512x512.size inb_S512x4096_S512x512_0_3584
abbrev rO7 : Rect S4096x512 := Rect.unit (s := S4096x512) ![3584, 0] S512x512.size inb_S4096x512_S512x512_3584_0

/-- The whitening matrix from the Gram matrix and the row of column sums. -/
def cOf (g : Vec F S512x512 .f32) (s : Vec F S1x512 .f32) : Vec F S512x512 .f32 :=
  k1_pay1 (k1_pay4 (F := F)) (k1_pay6 g s) (k1_pay9 g s) (k1_pay10 g s) (k1_pay11 (F := F)) (k1_pay12 g s) (k1_pay13 (F := F))

/-- The eight stores of one output block, last first. -/
abbrev outPieces (C : Vec F S512x512 .f32) (w : Vec F S512x4096 .f32) : List (View.Piece (Elt F) S4096x512 .bf16) :=
  [⟨rO7, k1_pay3 C (View.ld w rW7)⟩, ⟨rO6, k1_pay2 C (View.ld w rW6)⟩, ⟨rO5, k1_pay19 C (View.ld w rW5)⟩, ⟨rO4, k1_pay18 C (View.ld w rW4)⟩, ⟨rO3, k1_pay17 C (View.ld w rW3)⟩, ⟨rO2, k1_pay16 C (View.ld w rW2)⟩, ⟨rO1, k1_pay15 C (View.ld w rW1)⟩, ⟨rO0, k1_pay14 C (View.ld w rW0)⟩]

/-- The output block of one grid point from the whitening matrix and the weight's rows. -/
def outB (C : Vec F S512x512 .f32) (w : Vec F S512x4096 .f32) : Vec F S4096x512 .bf16 := View.canon (outPieces C w)

/-- The eight stores cover the output block. -/
theorem cover (C : Vec F S512x512 .f32) (w : Vec F S512x4096 .f32) (y : S4096x512.Idx) : ∃ pc ∈ outPieces C w, y ∈ pc.1.set :=
  View.cover_of_tiled (outPieces C w) S512x512.size (by rfl) y

theorem runA (c : Dev nD) (E : Set ℕ) (i : grid1.Coords) (arg1 : Memref sig .tc .vmem S512x512 .f32) (harg1 : arg1.IsWhole) (arg2 : Memref sig .tc .vmem S8x4096 .f32) (harg2 : arg2.IsWhole) (arg3 : Memref sig .tc .vmem S512x4096 .f32) (harg3 : arg3.IsWhole) (arg4 : Memref sig .tc .vmem S4096x512 .bf16) (harg4 : arg4.IsWhole) (arg5 : Memref sig .tc .vmem S512x512 .f32) (harg5 : arg5.IsWhole) (hc0 : cond0 i) (hc1 : ¬cond1 i)
    (g : Vec F S512x512 .f32) (cs : Vec F S8x4096 .f32) (w : Vec F S512x4096 .f32) (d : Vec F S4096x512 .bf16) (K : PUnit → sProp 𝕄) :
    iprop(owns (c : Thread nD τ) arg1 fullShare g ∗ owns (c : Thread nD τ) arg2 fullShare cs ∗ owns (c : Thread nD τ) arg3 fullShare w ∗ owns (c : Thread nD τ) arg4 fullShare d ∗ (∃ e, owns (c : Thread nD τ) arg5 fullShare e)
        ∗ (iprop(owns (c : Thread nD τ) arg1 fullShare g ∗ owns (c : Thread nD τ) arg2 fullShare cs ∗ owns (c : Thread nD τ) arg3 fullShare w ∗ owns (c : Thread nD τ) arg4 fullShare d ∗ owns (c : Thread nD τ) arg5 fullShare (cOf g (View.ld cs rS))) -∗ K ⟨⟩))
      ⊢ wp frame (wpE (defs₀ (F := F)) Variants.none c none) E (cc1_ns_wx i arg1 harg1 arg2 harg2 arg3 harg3 arg4 harg4 arg5 harg5) K := by
  simp only [cc1_ns_wx_eq_skeleton]; unfold cc1_ns_wx_skel
  simp only [k1_part1_eq_skeleton]
  unfold owns
  iintro ⟨⟨%f0, %hf0, H0⟩, ⟨%f1, %hf1, H1⟩, ⟨%f2, %hf2, H2⟩, ⟨%f3, %hf3, H3⟩, ⟨%e, %f4, -, H4⟩, Hk⟩
  subst hf0 hf1 hf2 hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_full arg5.view f4 inb_S512x512_S512x512_0_0 _ []).trans ?_
  exact congrArg (fun g => cOf g (View.ld (arg2.view.read (Elt F) f1) rS)) (View.readAt_full arg1.view f0 inb_S512x512_S512x512_0_0)

theorem runB (c : Dev nD) (E : Set ℕ) (i : grid1.Coords) (arg1 : Memref sig .tc .vmem S512x512 .f32) (harg1 : arg1.IsWhole) (arg2 : Memref sig .tc .vmem S8x4096 .f32) (harg2 : arg2.IsWhole) (arg3 : Memref sig .tc .vmem S512x4096 .f32) (harg3 : arg3.IsWhole) (arg4 : Memref sig .tc .vmem S4096x512 .bf16) (harg4 : arg4.IsWhole) (arg5 : Memref sig .tc .vmem S512x512 .f32) (harg5 : arg5.IsWhole) (hc0 : ¬cond0 i) (hc1 : cond1 i)
    (g : Vec F S512x512 .f32) (cs : Vec F S8x4096 .f32) (w : Vec F S512x4096 .f32) (C : Vec F S512x512 .f32) (K : PUnit → sProp 𝕄) :
    iprop(owns (c : Thread nD τ) arg1 fullShare g ∗ owns (c : Thread nD τ) arg2 fullShare cs ∗ owns (c : Thread nD τ) arg3 fullShare w ∗ (∃ e, owns (c : Thread nD τ) arg4 fullShare e) ∗ owns (c : Thread nD τ) arg5 fullShare C
        ∗ (iprop(owns (c : Thread nD τ) arg1 fullShare g ∗ owns (c : Thread nD τ) arg2 fullShare cs ∗ owns (c : Thread nD τ) arg3 fullShare w ∗ owns (c : Thread nD τ) arg4 fullShare (outB C w) ∗ owns (c : Thread nD τ) arg5 fullShare C) -∗ K ⟨⟩))
      ⊢ wp frame (wpE (defs₀ (F := F)) Variants.none c none) E (cc1_ns_wx i arg1 harg1 arg2 harg2 arg3 harg3 arg4 harg4 arg5 harg5) K := by
  simp only [cc1_ns_wx_eq_skeleton]; unfold cc1_ns_wx_skel
  simp only [k1_part2_eq_skeleton]
  unfold owns
  iintro ⟨⟨%f0, %hf0, H0⟩, ⟨%f1, %hf1, H1⟩, ⟨%f2, %hf2, H2⟩, ⟨%e, %f3, -, H3⟩, ⟨%f4, %hf4, H4⟩, Hk⟩
  subst hf0 hf1 hf2 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    have e := View.readAt_full arg5.view f4 inb_S512x512_S512x512_0_0
    refine Eq.trans ?_ (congrArg (fun C => outB C (arg3.view.read (Elt F) f2)) e)
    exact View.read_writes_eq_canon _ _ _ (cover _ _)
  iexists f4; isplitr; · ipureintro; rfl
  iexact H4

/-! ## Where the output is idle, and which case a point is -/

theorem hcond0 : ∀ t : Fin cfg1.N, cond0 (grid1.coords t) ↔ t.val % 9 = 0 :=
  (fun t => by
    have ht : t.val < 9 := Nat.lt_of_lt_of_eq t.isLt N_1
    have e0 : (grid1.coords t 0).val = t.val / 1 % 9 := Pipeline.Grid.coords_val t 0 (by decide) rfl
    simp only [cond0, e0]
    word_cmp
   : ∀ t : Fin grid1.N, cond0 (grid1.coords t) ↔ t.val % 9 = 0)

theorem hcond1 : ∀ t : Fin cfg1.N, cond1 (grid1.coords t) ↔ 1 ≤ t.val :=
  (by decide +kernel : ∀ t : Fin grid1.N, cond1 (grid1.coords t) ↔ 1 ≤ t.val)

theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
theorem live_3 : ∀ t : Fin cfg1.N, cond1 (grid1.coords t) → cfg1.idle 3 (grid1.coords t) = false := by decide +kernel
theorem idle_3 : ∀ t : Fin cfg1.N, ¬cond1 (grid1.coords t) → cfg1.idle 3 (grid1.coords t) = true := by decide +kernel
theorem noFlush_3 : ∀ t : Fin cfg1.N, ¬cond1 (grid1.coords t) → (cfg1.win 3).flush t = false := by decide +kernel

/-- The scratch the kernel carries between points. -/
abbrev scM : Memref sig .tc .vmem S512x512 .f32 := Memref.whole cc1_scratch0

/-- The region's other scoped buffers, unopened. -/
def restΦ (c : Dev nD) : sProp 𝕄 := Pipeline.scopedRestBut (Ix := Unit) (Name := ℕ) (U := UR sig nD τ) (Lvl := ℕ) (Val := Elt F) spec1 c [cc1_scratch0]

/-- The region's invariant with the scratch as a memref owned at some contents. -/
theorem PhiA_eq (c : Dev nD) :
    (Pipeline.ΦA spec1 c : sProp 𝕄)
      = iprop(((∃ d, owns (c : Thread nD τ) scM fullShare d) ∗ restΦ c) ∗ (∃ r, prngReg c r)) := by
  unfold Pipeline.ΦA restΦ
  rw [Pipeline.scopedRest_split_of_list spec1 c [cc1_scratch0] (by decide) (by decide)]
  simp only [scM, owns_whole]; try rfl

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- An input window's staging buffer holds its block at every point. -/
theorem before_0_of {c : Dev nD} (dat : Dat τ (Elt F) Unit ℕ (UR sig nD τ) ℕ cfg1 c) (hA : dat.A 0 = W c (Proc.devRef .tc (Pipeline.arrRef spec1 0)))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = W c (Proc.devRef .tc (Pipeline.arrRef spec1 1)))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = W c (Proc.devRef .tc (Pipeline.arrRef spec1 2)))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The first point of the grid. -/
abbrev t0 : Fin cfg1.N := ⟨0, by rw [show cfg1.N = 9 from N_1]; decide⟩

/-- The whitening matrix the scratch carries. -/
def cC (c : Dev nD) : Vec F S512x512 .f32 := cOf (iblk W c 0 t0) (View.ld (iblk W c 1 t0) rS)

theorem cC_eq (c : Dev nD) (t : Fin cfg1.N) (h : t.val = 0) : cOf (iblk W c 0 t) (View.ld (iblk W c 1 t) rS) = cC W c := by
  obtain ⟨n, hn⟩ := t
  subst h; rfl

/-- The invariant before point `n`: at the first the scratch at anything, later at the whitening matrix. -/
def PhiS (c : Dev nD) (n : ℕ) : sProp 𝕄 :=
  if n = 0 then Pipeline.ΦA spec1 c else iprop((owns (c : Thread nD τ) scM fullShare (cC W c) ∗ restΦ c) ∗ (∃ r, prngReg c r))

/-- The proof data of the region on core `c`. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => outB (cC W c) (iblk W c 2 t)
  Φ t := PhiS W c t.val
  q _ := fullShare
  owed _ := 0

theorem A_eq (c : Dev nD) (w : Fin cfg1.W) : (dat W c).A w = W c (Proc.devRef .tc (Pipeline.arrRef spec1 w)) := by
  dsimp only [dat]

theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = outB (cC W c) (iblk W c 2 t) := by dsimp only [dat]

theorem before_0 (c : Dev nD) (t : Fin cfg1.N) (d) : (dat W c).before 0 t d = iblk W c 0 t :=
  before_0_of W (dat W c) (A_eq W c 0) (after_0 W c) t d
theorem before_1 (c : Dev nD) (t : Fin cfg1.N) (d) : (dat W c).before 1 t d = iblk W c 1 t :=
  before_1_of W (dat W c) (A_eq W c 1) (after_1 W c) t d
theorem before_2 (c : Dev nD) (t : Fin cfg1.N) (d) : (dat W c).before 2 t d = iblk W c 2 t :=
  before_2_of W (dat W c) (A_eq W c 2) (after_2 W c) t d

/-- What the body is called with at a point, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d)))

/-- and what it returns. -/
def bodyPost (c : Dev nD) (t : Fin cfg1.N) : sProp 𝕄 :=
  iprop((dat W c).Φ t.succ ∗ (dat W c).owesAt () t.succ
    ∗ (dat W c).leavesExact 0 t ∗ (dat W c).leavesExact 1 t ∗ (dat W c).leavesExact 2 t ∗ (dat W c).leavesExact 3 t)

/-- The body at any point. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2]
  have h9 : t.val < 9 := Nat.lt_of_lt_of_eq t.isLt N_1
  rw [show (dat W c).Φ t.succ = PhiS W c (t.val + 1) from rfl, show (dat W c).Φ t.castSucc = PhiS W c t.val from rfl,
    show PhiS W c (t.val + 1) = _ from if_neg (Nat.succ_ne_zero _),
    show (dat W c).owesAt () t.succ = (dat W c).owesAt () t.castSucc from rfl,
    show (dat W c).leavesExact 0 t = owns (c : Thread nD τ) (st1_0 t) fullShare ((dat W c).after 0 t) from by
      unfold Dat.leavesExact; rw [live_0 t],
    show (dat W c).leavesExact 1 t = owns (c : Thread nD τ) (st1_1 t) fullShare ((dat W c).after 1 t) from by
      unfold Dat.leavesExact; rw [live_1 t],
    show (dat W c).leavesExact 2 t = owns (c : Thread nD τ) (st1_2 t) fullShare ((dat W c).after 2 t) from by
      unfold Dat.leavesExact; rw [live_2 t],
    after_0, after_1, after_2]
  by_cases hz : t.val = 0
  · have hc1 : ¬cond1 (grid1.coords t) := fun h => by have := (hcond1 t).mp h; omega
    have hc0 := (hcond0 t).mpr (by omega)
    rw [Dat.leavesExact_idle (dat W c) 3 t (idle_3 t hc1) (noFlush_3 t hc1), show PhiS W c t.val = _ from if_pos hz, PhiA_eq, ← cC_eq W c t hz]
    iintro ⟨⟨⟨HS, HR⟩, Hg⟩, Ho, ⟨%d0, H0⟩, ⟨%d1, H1⟩, ⟨%d2, H2⟩, ⟨%d3, H3⟩⟩
    iapply (runA c Set.univ (grid1.coords t) _ _ _ _ _ _ _ _ _ _ hc0 hc1 (iblk W c 0 t) (iblk W c 1 t) (iblk W c 2 t) ((dat W c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have hc1 := (hcond1 t).mpr (by omega)
    have hc0 : ¬cond0 (grid1.coords t) := fun h => by have := (hcond0 t).mp h; omega
    rw [show (dat W c).leavesExact 3 t = owns (c : Thread nD τ) (st1_3 t) fullShare ((dat W c).after 3 t) from by
      unfold Dat.leavesExact; rw [live_3 t hc1], after_3, show PhiS W c t.val = _ from if_neg hz]
    iintro ⟨⟨⟨HS, HR⟩, Hg⟩, Ho, ⟨%d0, H0⟩, ⟨%d1, H1⟩, ⟨%d2, H2⟩, ⟨%d3, H3⟩⟩
    iapply (runB c Set.univ (grid1.coords t) _ _ _ _ _ _ _ _ _ _ hc0 hc1 (iblk W c 0 t) (iblk W c 1 t) (iblk W c 2 t) (cC W c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The region's row of the body table is its body. -/
theorem defs₀_row (t : Fin cfg1.N) :
    defs₀ (F := F) .tc cfg1.body (cfg1.bodyArgs t (cfg1.slots t)) = bodyAt1 t := by
  unfold defs₀; rw [Defs.onTc_tc]

/-- The body obligation at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

/-- What the launch hands the region is the invariant before the first point, -/
theorem hin (c : Dev nD) : Pipeline.ΦA spec1 c ⊢ (dat W c).Φ 0 := by
  rw [show (dat W c).Φ 0 = PhiS W c 0 from rfl, show PhiS W c 0 = _ from if_pos rfl]

/-- and after the last the scratch's contents are forgotten. -/
theorem hout (c : Dev nD) : (dat W c).Φ (Fin.last cfg1.N) ⊢ Pipeline.ΦA spec1 c := by
  rw [show (dat W c).Φ (Fin.last cfg1.N) = PhiS W c cfg1.N from rfl, show PhiS W c cfg1.N = _ from if_neg (by rw [show cfg1.N = 9 from N_1]; decide), PhiA_eq]
  iintro ⟨⟨HS, HR⟩, Hg⟩
  isplitl [HS HR]
  · isplitl [HS]; · iexists _; iexact HS
    iexact HR
  iexact Hg

end Cert.KernelIdeal.Ns

end
-- ==== Proof.KernelIdeal.Final.lean ====
/- Region 2 of the kernel (`final_mm`): the triple of its body, its proof data over any contents `W` of the arrays at entry,
   and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Final

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- `W`: what the arrays hold when the region is entered, per core.
variable (W : Dev nD → Valuation τ sig (Elt F))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- An input window's staging buffer holds its block at every point. -/
theorem before_0_of {c : Dev nD} (dat : Dat τ (Elt F) Unit ℕ (UR sig nD τ) ℕ cfg2 c) (hA : dat.A 0 = W c (Proc.devRef .tc (Pipeline.arrRef spec2 0)))
    (hafter : ∀ t, dat.after 0 t = iblk W c 0 t) (t : Fin cfg2.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = W c (Proc.devRef .tc (Pipeline.arrRef spec2 1)))
    (hafter : ∀ t, dat.after 1 t = iblk W c 1 t) (t : Fin cfg2.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = W c (Proc.devRef .tc (Pipeline.arrRef spec2 2)))
    (hafter : ∀ t, dat.after 2 t = iblk W c 2 t) (t : Fin cfg2.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = W c (Proc.devRef .tc (Pipeline.arrRef spec2 3)))
    (hafter : ∀ t, dat.after 3 t = iblk W c 3 t) (t : Fin cfg2.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rX : Rect S256x4096 := Rect.unit (s := S256x4096) ![0, 0] S256x4096.size inb_S256x4096_S256x4096_0_0
abbrev rR : Rect S1x4096 := Rect.unit (s := S1x4096) ![0, 0] S1x4096.size inb_S1x4096_S1x4096_0_0
abbrev rW : Rect S4096x4096 := Rect.unit (s := S4096x4096) ![0, 0] S4096x4096.size inb_S4096x4096_S4096x4096_0_0

/-- The output block of one grid point as a function of its four input blocks. -/
def out (x0 : Vec F S256x4096 .bf16) (x1 : Vec F S4096x4096 .bf16) (x2 : Vec F S1x4096 .bf16) (x3 : Vec F S1x4096 .f32) : Vec F S256x4096 .f32 :=
  View.canon [⟨rX, k2_pay1 (View.ld x0 rX) (View.ld x2 rR) (View.ld x1 rW) (View.ld x3 rR)⟩]

/-- The body's one store covers the output block. -/
theorem cover (p0 : Vec F S256x4096 .f32) (y : S256x4096.Idx) :
    ∃ pc ∈ ([⟨rX, p0⟩] : List (View.Piece (Elt F) S256x4096 .f32)), y ∈ pc.1.set :=
  View.cover_of_tiled [⟨rX, p0⟩] S256x4096.size (by rfl) y

set_option maxHeartbeats 1000000 in
/-- The body on whole staging buffers: inputs stay, the output block becomes `out` of them. -/
theorem sound_kernel (c : Dev nD) (E : Set ℕ) (i : grid2.Coords) (arg1 : Memref sig .tc .vmem S256x4096 .bf16) (harg1 : arg1.IsWhole) (arg2 : Memref sig .tc .vmem S4096x4096 .bf16) (harg2 : arg2.IsWhole) (arg3 : Memref sig .tc .vmem S1x4096 .bf16) (harg3 : arg3.IsWhole) (arg4 : Memref sig .tc .vmem S1x4096 .f32) (harg4 : arg4.IsWhole) (arg5 : Memref sig .tc .vmem S256x4096 .f32) (harg5 : arg5.IsWhole)
    (x0 : Vec F S256x4096 .bf16) (x1 : Vec F S4096x4096 .bf16) (x2 : Vec F S1x4096 .bf16) (x3 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out x0 x1 x2 x3)) -∗ K ⟨⟩))
      ⊢ wp frame (wpE (defs₀ (F := F)) Variants.none c none) E (cc2_final_mm i arg1 harg1 arg2 harg2 arg3 harg3 arg4 harg4 arg5 harg5) K := by
  simp only [cc2_final_mm_eq_skeleton]; unfold cc2_final_mm_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-- The proof data of the region on core `c`. -/
def dat (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => iblk W c 2 t
    | ⟨3, _⟩ => iblk W c 3 t
    | ⟨4, _⟩ => out (iblk W c 0 t) (iblk W c 1 t) (iblk W c 2 t) (iblk W c 3 t)
  Φ _ := Pipeline.ΦA spec2 c
  q _ := fullShare
  owed _ := 0

theorem A_eq (c : Dev nD) (w : Fin cfg2.W) : (dat W c).A w = W c (Proc.devRef .tc (Pipeline.arrRef spec2 w)) := by
  dsimp only [dat]

theorem after_0 (c : Dev nD) (t : Fin cfg2.N) : (dat W c).after 0 t = iblk W c 0 t := by dsimp only [dat]
theorem after_1 (c : Dev nD) (t : Fin cfg2.N) : (dat W c).after 1 t = iblk W c 1 t := by dsimp only [dat]
theorem after_2 (c : Dev nD) (t : Fin cfg2.N) : (dat W c).after 2 t = iblk W c 2 t := by dsimp only [dat]
theorem after_3 (c : Dev nD) (t : Fin cfg2.N) : (dat W c).after 3 t = iblk W c 3 t := by dsimp only [dat]
theorem after_4 (c : Dev nD) (t : Fin cfg2.N) : (dat W c).after 4 t = out (iblk W c 0 t) (iblk W c 1 t) (iblk W c 2 t) (iblk W c 3 t) := by dsimp only [dat]

theorem before_0 (c : Dev nD) (t : Fin cfg2.N) (d) : (dat W c).before 0 t d = iblk W c 0 t :=
  before_0_of W (dat W c) (A_eq W c 0) (after_0 W c) t d
theorem before_1 (c : Dev nD) (t : Fin cfg2.N) (d) : (dat W c).before 1 t d = iblk W c 1 t :=
  before_1_of W (dat W c) (A_eq W c 1) (after_1 W c) t d
theorem before_2 (c : Dev nD) (t : Fin cfg2.N) (d) : (dat W c).before 2 t d = iblk W c 2 t :=
  before_2_of W (dat W c) (A_eq W c 2) (after_2 W c) t d
theorem before_3 (c : Dev nD) (t : Fin cfg2.N) (d) : (dat W c).before 3 t d = iblk W c 3 t :=
  before_3_of W (dat W c) (A_eq W c 3) (after_3 W c) t d

/-- What the body is called with at a point, -/
def bodyPre (c : Dev nD) (t : Fin cfg2.N) : sProp 𝕄 :=
  iprop((dat W c).Φ t.castSucc ∗ (dat W c).owesAt () t.castSucc
    ∗ (∃ d, owns (c : Thread nD τ) (st2_0 t) fullShare ((dat W c).before 0 t d))
    ∗ (∃ d, owns (c : Thread nD τ) (st2_1 t) fullShare ((dat W c).before 1 t d))
    ∗ (∃ d, owns (c : Thread nD τ) (st2_2 t) fullShare ((dat W c).before 2 t d))
    ∗ (∃ d, owns (c : Thread nD τ) (st2_3 t) fullShare ((dat W c).before 3 t d))
    ∗ (∃ d, owns (c : Thread nD τ) (st2_4 t) fullShare ((dat W c).before 4 t d)))

/-- and what it returns. -/
def bodyPost (c : Dev nD) (t : Fin cfg2.N) : sProp 𝕄 :=
  iprop((dat W c).Φ t.succ ∗ (dat W c).owesAt () t.succ
    ∗ owns (c : Thread nD τ) (st2_0 t) fullShare ((dat W c).after 0 t)
    ∗ owns (c : Thread nD τ) (st2_1 t) fullShare ((dat W c).after 1 t)
    ∗ owns (c : Thread nD τ) (st2_2 t) fullShare ((dat W c).after 2 t)
    ∗ owns (c : Thread nD τ) (st2_3 t) fullShare ((dat W c).after 3 t)
    ∗ owns (c : Thread nD τ) (st2_4 t) fullShare ((dat W c).after 4 t))

/-- The body at any point. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before_0, before_1, before_2, before_3]
  rw [show (dat W c).Φ t.succ = (dat W c).Φ t.castSucc from rfl,
    show (dat W c).owesAt () t.succ = (dat W c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid2.coords t) _ _ _ _ _ _ _ _ _ _ (iblk W c 0 t) (iblk W c 1 t) (iblk W c 2 t) (iblk W c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The region's row of the body table is its body. -/
theorem defs₀_row (t : Fin cfg2.N) :
    defs₀ (F := F) .tc cfg2.body (cfg2.bodyArgs t (cfg2.slots t)) = bodyAt2 t := by
  unfold defs₀; rw [Defs.onTc_tc]

/-- The body obligation at every point. -/
theorem body_obligation (c : Dev nD) : BodyObligation (dat (F := F) W c) (defs₀ (F := F)) Variants.none () Set.univ := fun t => by
  rw [bigSep_W2, bigSep_W2, defs₀_row]
  exact triple_restated (sound_body W c t) rfl .rfl fun _ => .rfl

end Cert.KernelIdeal.Final

end
-- ==== Proof.KernelIdeal.Run.lean ====
/- The run of the kernel program: its three regions and the host reshape chained, every argument kept, the result at the last
   region's output array. -/
module

public import proofs.«01_k».proof.Proof.KernelIdeal.Stats
public import proofs.«01_k».proof.Proof.KernelIdeal.Ns
public import proofs.«01_k».proof.Proof.KernelIdeal.Final
public import proofs.«01_k».proof.Proof.Gen.KernelIdeal.Regions
public import Idealize.ShloMosaic.Lib.Pipeline.RegionArraysS

@[expose] public section

set_option maxRecDepth 16384

noncomputable section

namespace Cert.KernelIdeal.Whole

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold between the items -/

/-- At launch, -/
def W0 (c : Dev nD) : Valuation τ sig (Elt F) := fun b => m (c, b)
/-- after the first region, -/
def W1 (c : Dev nD) : Valuation τ sig (Elt F) := Pipeline.afterRegion (Stats.dat (W0 m) c) (W0 m c)
/-- after the second, -/
def W2 (c : Dev nD) : Valuation τ sig (Elt F) := Pipeline.afterRegion (Ns.dat (W1 m) c) (W1 m c)
/-- after the reshape of the bias, -/
def W3 (c : Dev nD) : Valuation τ sig (Elt F) := StableHlo.after hostOps2 (W2 m c)
/-- and after the third region. -/
def W4 (c : Dev nD) : Valuation τ sig (Elt F) := Pipeline.afterRegion (Final.dat (W3 m) c) (W3 m c)

theorem W1_keeps (c : Dev nD) (r : Ref sig .tc) (h : ∀ w, Pipeline.arrRef spec0 w = r → (cfg0.win w).isOut = false) :
    W1 m c (Proc.devRef .tc r) = W0 m c (Proc.devRef .tc r) :=
  Pipeline.afterRegion_keeps _ _ launch0.win.arr_inj (Stats.A_eq (W0 m) c) r h
theorem W2_keeps (c : Dev nD) (r : Ref sig .tc) (h : ∀ w, Pipeline.arrRef spec1 w = r → (cfg1.win w).isOut = false) :
    W2 m c (Proc.devRef .tc r) = W1 m c (Proc.devRef .tc r) :=
  Pipeline.afterRegion_keeps _ _ launch1.win.arr_inj (Ns.A_eq (W1 m) c) r h
theorem W3_keeps (c : Dev nD) (r : Ref sig .tc) (h : r ∉ hostOps2_W) :
    W3 m c (Proc.devRef .tc r) = W2 m c (Proc.devRef .tc r) :=
  StableHlo.after_of_writes_sub hostOps2 _ hostOps2_writes h
theorem W4_keeps (c : Dev nD) (r : Ref sig .tc) (h : ∀ w, Pipeline.arrRef spec2 w = r → (cfg2.win w).isOut = false) :
    W4 m c (Proc.devRef .tc r) = W3 m c (Proc.devRef .tc r) :=
  Pipeline.afterRegion_keeps _ _ launch2.win.arr_inj (Final.A_eq (W3 m) c) r h

/-- What a region leaves in the array of one of its windows. -/
theorem W1_arr (c : Dev nD) (w : Fin cfg0.W) : W1 m c (Proc.devRef .tc (Pipeline.arrRef spec0 w)) = (Stats.dat (W0 m) c).arrAt w cfg0.N :=
  Pipeline.afterRegion_arr _ _ launch0.win.arr_inj w
theorem W2_arr (c : Dev nD) (w : Fin cfg1.W) : W2 m c (Proc.devRef .tc (Pipeline.arrRef spec1 w)) = (Ns.dat (W1 m) c).arrAt w cfg1.N :=
  Pipeline.afterRegion_arr _ _ launch1.win.arr_inj w
theorem W4_arr (c : Dev nD) (w : Fin cfg2.W) : W4 m c (Proc.devRef .tc (Pipeline.arrRef spec2 w)) = (Final.dat (W3 m) c).arrAt w cfg2.N :=
  Pipeline.afterRegion_arr _ _ launch2.win.arr_inj w

theorem W4_main_arg0 (c : Dev nD) : W4 m c (Proc.devRef .tc main_arg0) = m ((c : Thread nD τ).loc main_arg0) :=
  (W4_keeps m c main_arg0 (by decide)).trans <| (W3_keeps m c main_arg0 (by decide)).trans <| (W2_keeps m c main_arg0 (by decide)).trans (W1_keeps m c main_arg0 (by decide))
theorem W4_main_arg1 (c : Dev nD) : W4 m c (Proc.devRef .tc main_arg1) = m ((c : Thread nD τ).loc main_arg1) :=
  (W4_keeps m c main_arg1 (by decide)).trans <| (W3_keeps m c main_arg1 (by decide)).trans <| (W2_keeps m c main_arg1 (by decide)).trans (W1_keeps m c main_arg1 (by decide))
theorem W4_main_arg2 (c : Dev nD) : W4 m c (Proc.devRef .tc main_arg2) = m ((c : Thread nD τ).loc main_arg2) :=
  (W4_keeps m c main_arg2 (by decide)).trans <| (W3_keeps m c main_arg2 (by decide)).trans <| (W2_keeps m c main_arg2 (by decide)).trans (W1_keeps m c main_arg2 (by decide))

/-! ## The segments -/

/-- The regions' proof data. -/
def pdats : (p : Fin 3) → (c : Dev nD) → Dat τ (Elt F) Unit ℕ (UR sig nD τ) ℕ (cfgs p) c
  | 0 => fun c => Stats.dat (W0 m) c
  | 1 => fun c => Ns.dat (W1 m) c
  | 2 => fun c => Final.dat (W3 m) c
  | ⟨_ + 3, h⟩ => absurd h (Nat.not_lt.2 (Nat.le_add_left _ _))

/-- The one level every staging wait is recorded at. -/
def L : GSem nD τ sig → Finset Unit := fun g => if g.1.2 = .tc then {()} else ∅
def lv : GSem nD τ sig → Unit → ℕ := fun _ _ => 0

theorem hL (g : GSem nD τ sig) (h : g.1.2 ≠ .tc) : L g = ∅ := if_neg h

theorem cut (p : Fin 3) : Pipeline.LevelCut (pcfgs (F := F)) adm () L lv p (fun _ => 0) (fun _ => 0) where
  hι c w s := by unfold L; rw [if_pos rfl]; exact Finset.mem_singleton_self _
  hιb c w s := Nat.le_refl _
  hD c g i h := absurd h (Nat.lt_irrefl 0)

/-- What rides beside the buffers: what the core owes, and its generator register at some state. -/
abbrev E (c : Dev nD) : sProp 𝕄 :=
  iprop((∃ Wd, owes (c : Thread nD τ) (0 : CellTallies nD τ sig Unit) Wd) ∗ (∃ r, prngReg c r) ∗ BI.emp)

abbrev X (c : Dev nD) : sProp 𝕄 := iprop(∃ r, prngReg c r)

def seg2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) E

set_option backward.isDefEq.respectTransparency.types false in
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) X X
    launch0.toP rfl (fun c => (Stats.body_obligation (W0 m) c).loose) (fun _ _ => rfl) (fun _ => rfl)
    (fun c => (Stats.dat (W0 m) c).share_full fun _ => rfl) (fun c => .rfl) (fun c => .rfl) (fun _ => 0) (cut 0) (fun _ => BI.emp)
    (W0 m) (fun c w => Stats.A_eq (W0 m) c w)

set_option backward.isDefEq.respectTransparency.types false in
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) X X
    launch1.toP rfl (fun c => (Ns.body_obligation (W1 m) c).loose) (fun _ _ => rfl) (fun _ => rfl)
    (fun c => (Ns.dat (W1 m) c).share_full fun _ => rfl) (fun c => Ns.hin (W1 m) c) (fun c => Ns.hout (W1 m) c) (fun _ => 0) (cut 1) (fun _ => BI.emp)
    (W1 m) (fun c w => Ns.A_eq (W1 m) c w)

set_option backward.isDefEq.respectTransparency.types false in
def R2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig) X X
    launch2.toP rfl (fun c => (Final.body_obligation (W3 m) c).loose) (fun _ _ => rfl) (fun _ => rfl)
    (fun c => (Final.dat (W3 m) c).share_full fun _ => rfl) (fun c => .rfl) (fun c => .rfl) (fun _ => 0) (cut 2) (fun _ => BI.emp)
    (W3 m) (fun c w => Final.A_eq (W3 m) c w)

/-- What a core holds between two items. -/
abbrev T (V : Dev nD → Valuation τ sig (Elt F)) (c : Dev nD) : sProp 𝕄 :=
  iprop(StableHlo.held (c : Thread nD τ) (Pipeline.ucRefs τ sig) (V c) ∗ E c)

set_option backward.isDefEq.respectTransparency.types false in
theorem hpre0 (c : Dev nD) : T (W0 m) c ⊢ (R0 m).pre c := by
  unfold R0
  exact RegionSeg.ofHeldIn_pre (pcs := pcfgs (F := F)) (a := adm) (pdats := pdats m) (ι := ()) (defs₀ := defs₀) (𝒱₀ := Variants.none) (L := L) (lv := lv) (p := 0)
    (D := fun _ => 0) (X := X) (Y := X) (R := fun _ => BI.emp) (W := W0 m) (S := Pipeline.ucRefs τ sig) (Pipeline.arrRefs_sub_ucRefs spec0 launch0.win.arr_unscoped) c
set_option backward.isDefEq.respectTransparency.types false in
theorem hpost0 (c : Dev nD) : (R0 m).post c ⊢ T (W1 m) c := by
  unfold R0
  exact RegionSeg.ofHeldIn_post (pcs := pcfgs (F := F)) (a := adm) (pdats := pdats m) (ι := ()) (defs₀ := defs₀) (𝒱₀ := Variants.none) (L := L) (lv := lv) (p := 0)
    (D := fun _ => 0) (X := X) (Y := X) (R := fun _ => BI.emp) (W := W0 m) (S := Pipeline.ucRefs τ sig) (Pipeline.arrRefs_sub_ucRefs spec0 launch0.win.arr_unscoped) c
set_option backward.isDefEq.respectTransparency.types false in
theorem hpre1 (c : Dev nD) : T (W1 m) c ⊢ (R1 m).pre c := by
  unfold R1
  exact RegionSeg.ofHeldIn_pre (pcs := pcfgs (F := F)) (a := adm) (pdats := pdats m) (ι := ()) (defs₀ := defs₀) (𝒱₀ := Variants.none) (L := L) (lv := lv) (p := 1)
    (D := fun _ => 0) (X := X) (Y := X) (R := fun _ => BI.emp) (W := W1 m) (S := Pipeline.ucRefs τ sig) (Pipeline.arrRefs_sub_ucRefs spec1 launch1.win.arr_unscoped) c
set_option backward.isDefEq.respectTransparency.types false in
theorem hpost1 (c : Dev nD) : (R1 m).post c ⊢ T (W2 m) c := by
  unfold R1
  exact RegionSeg.ofHeldIn_post (pcs := pcfgs (F := F)) (a := adm) (pdats := pdats m) (ι := ()) (defs₀ := defs₀) (𝒱₀ := Variants.none) (L := L) (lv := lv) (p := 1)
    (D := fun _ => 0) (X := X) (Y := X) (R := fun _ => BI.emp) (W := W1 m) (S := Pipeline.ucRefs τ sig) (Pipeline.arrRefs_sub_ucRefs spec1 launch1.win.arr_unscoped) c
set_option backward.isDefEq.respectTransparency.types false in
theorem hpre2 (c : Dev nD) : T (W3 m) c ⊢ (R2 m).pre c := by
  unfold R2
  exact RegionSeg.ofHeldIn_pre (pcs := pcfgs (F := F)) (a := adm) (pdats := pdats m) (ι := ()) (defs₀ := defs₀) (𝒱₀ := Variants.none) (L := L) (lv := lv) (p := 2)
    (D := fun _ => 0) (X := X) (Y := X) (R := fun _ => BI.emp) (W := W3 m) (S := Pipeline.ucRefs τ sig) (Pipeline.arrRefs_sub_ucRefs spec2 launch2.win.arr_unscoped) c
set_option backward.isDefEq.respectTransparency.types false in
theorem hpost2 (c : Dev nD) : (R2 m).post c ⊢ T (W4 m) c := by
  unfold R2
  exact RegionSeg.ofHeldIn_post (pcs := pcfgs (F := F)) (a := adm) (pdats := pdats m) (ι := ()) (defs₀ := defs₀) (𝒱₀ := Variants.none) (L := L) (lv := lv) (p := 2)
    (D := fun _ => 0) (X := X) (Y := X) (R := fun _ => BI.emp) (W := W3 m) (S := Pipeline.ucRefs τ sig) (Pipeline.arrRefs_sub_ucRefs spec2 launch2.win.arr_unscoped) c

/-- @main as the list of its items. -/
abbrev items (c : Dev nD) : List (Seg (pcfgs (F := F)) adm (pdats m) () defs₀ Variants.none L lv) :=
  [.region (R0 m), .region (R1 m), .host (seg2 m), .region (R2 m)]

/-- A memory's TensorCore buffer is a device buffer; the unscoped ones are held. -/
theorem mem_uc (r : Ref sig .tc) (h : ¬ r.isScoped) : Proc.devRef .tc r ∈ Pipeline.ucRefs τ sig :=
  Finset.mem_filter.mpr ⟨StableHlo.devRef_mem_tcRefs r, h⟩

set_option backward.isDefEq.respectTransparency.types false in
/-- Every fair execution terminates with the arguments as launched, the result at `W4` and every semaphore at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v0) = W4 m c (Proc.devRef .tc main_v0))
      ∧ r.2.sem = fun _ => 0) := by
  refine Pipeline.θ_run_regions_kit_dev_sems (pcfgs (F := F)) adm (pdats m) () cellOf_inj
    (emb₁ : Emb (UR sig nD τ) 𝕄) defs₀ Variants.none L lv m ρ main (items m)
    (fun c Q => by
      rewrite [main_chain c, Seg.run_eq_chain,
        show (items m c).map Seg.prog = [
          Prog.lift (.customCall (Pipeline.entry 0) ()),
          Prog.lift (.customCall (Pipeline.entry 1) ()),
          StableHlo.seq hostOps2,
          Prog.lift (.customCall (Pipeline.entry 2) ()) ] from rfl]
      dsimp (config := { failIfUnchanged := false }) only
      exact .rfl)
    (fun c => by simp only [items, Seg.pipes_host, Seg.pipes_region, Seg.pipes_nil]; decide) (fun _ => 0) hL (fun _ => BI.emp)
    (initOf (Pipeline.cells cfgs cellOf_inj) (Pipeline.launchToks cfgs cellOf_inj)) ?_
    (T₀ := T (W0 m))
    (Tₙ := fun c => StableHlo.held (c : Thread nD τ) (Pipeline.ucRefs τ sig) (W4 m c))
    (hch := fun c => ⟨hpre0 m c, (hpost0 m c).trans (hpre1 m c), hpost1 m c, hpre2 m c, (hpost2 m c).trans (sep_mono .rfl (by
      iintro ⟨H, -⟩; iexact H))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_v0) = W4 m c (Proc.devRef .tc main_v0))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own ((emb₁ : Emb (UR sig nD τ) 𝕄) (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (W0 m c) from Pipeline.unscopedBufs_held (Ix := Unit) (Name := ℕ) (U := UR sig nD τ) (Lvl := ℕ) c (W0 m c)]
    iintro ⟨⟨Hh, -, HO, -, Hg, -⟩, -⟩
    imodintro
    isplitl [Hh]; · iexact Hh
    isplitl [HO]; · iexists ∅; iexact HO
    isplitl [Hg]; · iexists _; iexact Hg
    iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨(h (Proc.devRef .tc main_arg0) (mem_uc main_arg0 (by decide))).trans (W4_main_arg0 m c),
        (h (Proc.devRef .tc main_arg1) (mem_uc main_arg1 (by decide))).trans (W4_main_arg1 m c),
        (h (Proc.devRef .tc main_arg2) (mem_uc main_arg2 (by decide))).trans (W4_main_arg2 m c),
        h (Proc.devRef .tc main_v0) (mem_uc main_v0 (by decide))⟩
    · iexact HSI

end Cert.KernelIdeal.Whole

end
-- ==== Proof.ReferenceIdeal.Run.lean ====
/- The reference's run: what its argument buffers and its result hold at the end. -/
module

public import proofs.«01_k».proof.Proof.Gen.ReferenceIdeal.Run
public import Idealize.ShloMosaic.Lib.Quiescent

@[expose] public section

set_option maxRecDepth 16384

noncomputable section

namespace Cert.ReferenceIdeal.Whole

open Idealize.ShloMosaic Idealize.ShloMosaic.TcCoe Idealize.ShloMosaic.StableHlo
open Idealize.SL.Sem
open Cert.ReferenceIdeal.Gen Cert.ReferenceIdeal.Value

variable {F : FTy → Type} [FloatOps F]
variable (m : (ℓ : Loc nD τ sig) → Buf (Elt F) ℓ) (ρ : Dev nD → PrngReg)

/-- The buffers that the stretch after the loop writes. -/
abbrev tailRefs : List (Ref sig .tc) :=
  [main_v42, main_v43, main_v44, main_v45, main_v46, main_v47, main_v48, main_cst_9, main_v49, main_v50, main_v51, main_v52,
    main_v53, main_v54, main_v55, main_v56]

theorem tail_writes : (hostOps0_5 : List (HloOp τ sig (Elt F))).Forall fun op => op.writes ⊆ (tailRefs.map (Proc.devRef (τ := τ) .tc)).toFinset :=
  forall_writes_sub_of_map rfl

/-- A buffer that no trip of the loop writes holds before every trip what it held at the loop's entry. -/
theorem atK_keep (c : Dev nD) (r : Ref sig .tc) (hc : r ∉ condOps_W) (hb : r ∉ while0Ops0_W) :
    ∀ k, atK m k c (Proc.devRef .tc r) = entryContents preI m c (Proc.devRef .tc r)
  | 0 => rfl
  | k + 1 => by
    refine Eq.trans ?_ (atK_keep c r hc hb k)
    show after while0Ops0 (after condOps (atK m k c)) (Proc.devRef .tc r) = _
    rw [after_of_writes_sub _ _ while0Ops0_writes hb, after_of_writes_sub _ _ condOps_writes hc]

/-- A buffer that no operation of the program writes ends at what it held at the launch. -/
theorem fin_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (hc : r ∉ condOps_W) (hb : r ∉ while0Ops0_W) (ht : r ∉ tailRefs) :
    finalContents condOps preI bodyI postI 5 m c (Proc.devRef .tc r) = m ((c.tc : Thread nD τ).loc r) := by
  show after hostOps0_5 (after condOps (atK m 5 c)) (Proc.devRef .tc r) = _
  rw [after_of_writes_sub _ _ tail_writes ht, after_of_writes_sub _ _ condOps_writes hc, atK_keep m c r hc hb]
  show after hostOps0_4 (after hostOps0_3 (after hostOps0_2 (after hostOps0_1 (after hostOps0 (launchContents m c))))) (Proc.devRef .tc r) = _
  rw [after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

/-- Every fair execution terminates with the arguments as launched, the result at the fold of the operations and every semaphore at zero. -/
theorem run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v56) = finalContents condOps preI bodyI postI 5 m c (Proc.devRef .tc main_v56))
      ∧ r.2.sem = fun _ => 0) :=
  (run_fold m ρ).mono fun r h => ⟨fun c =>
    ⟨(h c main_arg0 rfl).trans (fin_keep m c main_arg0 (by decide) (by decide) (by decide) (by decide) (by decide) (by decide) (by decide) (by decide)),
      (h c main_arg1 rfl).trans (fin_keep m c main_arg1 (by decide) (by decide) (by decide) (by decide) (by decide) (by decide) (by decide) (by decide)),
      (h c main_arg2 rfl).trans (fin_keep m c main_arg2 (by decide) (by decide) (by decide) (by decide) (by decide) (by decide) (by decide) (by decide)),
      h c main_v56 rfl⟩, sem_eq_zero_of_no_sems rfl _⟩

end Cert.ReferenceIdeal.Whole

end
-- ==== Proof.Frames.lean ====
/- The frames of the three programs, and the statement of the rewrite that names a constant. -/
module

public import proofs.«01_k».proof.Defs
public import proofs.«01_k».proof.Proof.Kernel.Run
public import proofs.«01_k».proof.Proof.KernelIdeal.Run
public import proofs.«01_k».proof.Proof.ReferenceIdeal.Run

@[expose] public section

noncomputable section

namespace Cert.Proof

open Idealize.ShloMosaic Idealize.ShloMosaic.TcCoe Idealize.ShloMosaic.StableHlo Idealize.SL.Sem

/-- The kernel runs, ends with its arguments unchanged and every semaphore at zero. -/
theorem frameP : Cert.quiescent_Kernel (hKernel := Cert.Kernel.Gen.facts) := fun m g _ =>
  θ_run_mono (Cert.Kernel.Whole.run m g) fun _ h => ⟨fun c => ⟨(h.1 c).1, (h.1 c).2.1, (h.1 c).2.2.1⟩, h.2⟩

/-- The same of the idealized kernel. -/
theorem framePI : Cert.quiescent_KernelIdeal (hKernelIdeal := Cert.KernelIdeal.Gen.facts) := fun m g _ =>
  θ_run_mono (Cert.KernelIdeal.Whole.run m g) fun _ h => ⟨fun c => ⟨(h.1 c).1, (h.1 c).2.1, (h.1 c).2.2.1⟩, h.2⟩

/-- The same of the idealized reference. -/
theorem frameRI : Cert.quiescent_ReferenceIdeal (hReferenceIdeal := Cert.ReferenceIdeal.Gen.facts) := fun m g _ =>
  θ_run_mono (Cert.ReferenceIdeal.Whole.run m g) fun _ h => ⟨fun c => ⟨(h.1 c).1, (h.1 c).2.1, (h.1 c).2.2.1⟩, h.2⟩

/-- The one rewrite, the naming of the constant 1/4095, is its rule's. -/
theorem preserves : Cert.preserves_Kernel_KernelIdeal := IdealRules.named_const.statement _ _ _ _ _ rfl

end Cert.Proof

end
-- ==== Proof.Value.Math.lean ====
/- The mathematics both programs share, over the real numbers: the layer norm of a row is finite, the two spellings of the covariance
   agree, the norm is positive, and the two spellings of the last product agree. -/
module

public import Idealize.ShloMosaic.Lib.Pointwise
public import Idealize.ShloMosaic.Lib.IdealHost

@[expose] public section

set_option maxRecDepth 16384

noncomputable section

namespace Cert.Maths

open Idealize.ShloMosaic

/-! ## Constants -/

/-- The smoothing constant, as the real number its 32-bit pattern denotes. -/
def eps : ℝ := 10995116 / 1099511627776

theorem eps_pos : 0 < eps := by unfold eps; norm_num

theorem c_eps : Ideal.ofBits .f32 0x3727C5AC#32 = ((eps : ℝ) : EReal) := by
  unfold eps; simp [Ideal.ofBits, Ideal.ieee, -EReal.coe_mul]; norm_num
theorem c_4096 : Ideal.ofBits .f32 0x45800000#32 = ((4096 : ℝ) : EReal) := by
  simp [Ideal.ofBits, Ideal.ieee, -EReal.coe_mul]; norm_num
theorem c_65536 : Ideal.ofBits .f32 0x47800000#32 = ((65536 : ℝ) : EReal) := by
  simp [Ideal.ofBits, Ideal.ieee, -EReal.coe_mul]; norm_num
theorem c_inv : Ideal.ofBits .f32 0x37800000#32 = ((1 / 65536 : ℝ) : EReal) := by
  simp [Ideal.ofBits, Ideal.ieee, -EReal.coe_mul]; norm_num
theorem c_inv2 : Ideal.ofBits .f32 0x2F800000#32 = ((1 / 65536 * (1 / 65536) : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_three_halves : Ideal.ofBits .f32 0x3FC00000#32 = ((3 / 2 : ℝ) : EReal) := by
  simp [Ideal.ofBits, Ideal.ieee, -EReal.coe_mul]; norm_num
theorem c_top : Ideal.ofBits .f32 0x7F800000#32 = ⊤ := by
  simp [Ideal.ofBits, Ideal.ieee]

/-! ## Sums of finite numbers -/

/-- A finite sum of real numbers, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-! ## The layer norm of a row -/

/-- A row less its mean. -/
def cen (r : Fin 4096 → EReal) (k : Fin 4096) : EReal := r k - Ideal.div (∑ l, r l) ((4096 : ℝ) : EReal)

/-- The layer norm of a row: the centred row over its standard deviation plus the smoothing constant. -/
def ln (r : Fin 4096 → EReal) (k : Fin 4096) : EReal :=
  Ideal.div (cen r k) (Ideal.sqrt ((∑ l, cen r l * cen r l) * ((4095⁻¹ : ℝ) : EReal)) + ((eps : ℝ) : EReal))

theorem mul_self_nonneg' (x : EReal) : 0 ≤ x * x := by
  induction x with
  | bot => simp
  | top => simp
  | coe x => rw [← EReal.coe_mul]; exact_mod_cast mul_self_nonneg x

/-- Every entry of a row's layer norm is a finite number, whatever the row. -/
theorem ln_real (r : Fin 4096 → EReal) (k : Fin 4096) : ∃ y : ℝ, ln r k = (y : EReal) := by
  have hnn : 0 ≤ ∑ l, cen r l * cen r l := Finset.sum_nonneg fun l _ => mul_self_nonneg' _
  have hle : cen r k * cen r k ≤ ∑ l, cen r l * cen r l :=
    Finset.single_le_sum (f := fun l => cen r l * cen r l) (fun l _ => mul_self_nonneg' _) (Finset.mem_univ k)
  unfold ln
  generalize (∑ l, cen r l * cen r l) = v at hnn hle
  generalize cen r k = x at hle
  induction v with
  | bot => simp at hnn
  | top =>
    rw [EReal.top_mul_coe_of_pos (by norm_num), Ideal.sqrt_top, EReal.top_add_coe]
    refine ⟨0, ?_⟩
    simp [Ideal.div]
  | coe v =>
    have hv : 0 ≤ v := by exact_mod_cast hnn
    have hx : ∃ y : ℝ, x = y := by
      induction x with
      | bot => simp at hle
      | top => simp at hle
      | coe x => exact ⟨x, rfl⟩
    obtain ⟨y, rfl⟩ := hx
    rw [← EReal.coe_mul, Ideal.sqrt_coe, if_neg (not_lt.mpr (by positivity)), ← EReal.coe_add,
      Ideal.div_coe (by have := eps_pos; positivity), ← EReal.coe_mul]
    exact ⟨_, rfl⟩

/-- The layer norm of a row, as real numbers. -/
def lnr (r : Fin 4096 → EReal) (k : Fin 4096) : ℝ := (ln_real r k).choose
theorem lnr_spec (r : Fin 4096 → EReal) (k : Fin 4096) : ln r k = (lnr r k : EReal) := (ln_real r k).choose_spec

/-! ## Square matrices of order 512 -/

abbrev RM := Fin 512 → Fin 512 → ℝ

/-- The product of two matrices. -/
def mulM (A B : RM) : RM := fun a b => ∑ k, A a k * B k b
/-- The unit matrix. -/
def eyeM : RM := fun a b => if a = b then 1 else 0
/-- The factor of one Newton-Schulz step. -/
def stepT (p : RM × RM) : RM := fun a b => 3 / 2 * eyeM a b - 1 / 2 * mulM p.2 p.1 a b
/-- One Newton-Schulz step on a pair of matrices. -/
def nsStep (p : RM × RM) : RM × RM := (mulM p.1 (stepT p), mulM (stepT p) p.2)
/-- The pair after `k` steps from `(Y, 1)`. -/
def ns (Y : RM) : ℕ → RM × RM
  | 0 => (Y, eyeM)
  | k + 1 => nsStep (ns Y k)
/-- The Frobenius norm. -/
def fro (C : RM) : ℝ := Real.sqrt (∑ a, ∑ b, C a b * C a b)
/-- The inverse square root of a matrix by five Newton-Schulz steps. -/
def isq (C : RM) : RM := fun a b => (ns (fun a b => C a b * (1 / fro C)) 5).2 a b * (1 / Real.sqrt (fro C))

/-! ## The statistics -/

/-- Column `a` of column block `j`. -/
def col (j : Fin 8) (a : Fin 512) : Fin 4096 := ⟨j.val * 512 + a.val, by omega⟩
/-- The column block of a column, and its place in it. -/
def qb (k : Fin 4096) : Fin 8 := ⟨k.val / 512, by omega⟩
def rb (k : Fin 4096) : Fin 512 := ⟨k.val % 512, by omega⟩

theorem qb_col (j : Fin 8) (a : Fin 512) : qb (col j a) = j := by ext; simp only [qb, col]; omega
theorem rb_col (j : Fin 8) (a : Fin 512) : rb (col j a) = a := by ext; simp only [rb, col]; omega

/-- A sum over the columns, block by block. -/
theorem sum_col {M : Type*} [AddCommMonoid M] (f : Fin 4096 → M) : ∑ k, f k = ∑ j : Fin 8, ∑ a : Fin 512, f (col j a) :=
  Fin.sum_univ_tiles 8 512 rfl f

/-- A sum over the rows cut in eight, row by row. -/
theorem sum_rows {M : Type*} [AddCommMonoid M] (g : Fin 8192 → Fin 8 → M) :
    ∑ n : Fin 65536, g ⟨n.val / 8, by omega⟩ ⟨n.val % 8, by omega⟩ = ∑ i, ∑ j, g i j := by
  rw [Fin.sum_univ_tiles 8192 8 rfl (fun n : Fin 65536 => g ⟨n.val / 8, by omega⟩ ⟨n.val % 8, by omega⟩)]
  refine Finset.sum_congr rfl fun i _ => Finset.sum_congr rfl fun j _ => ?_
  have hj := j.isLt
  congr 1
  · ext; simp only []; omega
  · ext; simp only []; omega

/-- Column sums, products and covariance of `n` rows, each cut in eight. -/
def Ssum {n : ℕ} (X : Fin n → Fin 4096 → ℝ) (a : Fin 512) : ℝ := ∑ i, ∑ j, X i (col j a)
def Gram {n : ℕ} (X : Fin n → Fin 4096 → ℝ) : RM := fun a b => ∑ i, ∑ j, X i (col j a) * X i (col j b)
/-- The mean of the rows, each cut in eight. -/
def mu (X : Fin 8192 → Fin 4096 → ℝ) (a : Fin 512) : ℝ := Ssum X a * (1 / 65536)
/-- The covariance as the kernel forms it. -/
def covK (X : Fin 8192 → Fin 4096 → ℝ) : RM := fun a b =>
  Gram X a b * (1 / 65536) - Ssum X a * Ssum X b * (1 / 65536 * (1 / 65536)) + eps * eyeM a b
/-- The covariance as the reference forms it. -/
def covR (X : Fin 8192 → Fin 4096 → ℝ) : RM := fun a b =>
  eps * eyeM a b + (∑ i, ∑ j, (X i (col j a) - mu X a) * (X i (col j b) - mu X b)) * (1 / 65536)

/-- The two covariances are equal. -/
theorem cov_eq (X : Fin 8192 → Fin 4096 → ℝ) : covK X = covR X := by
  funext a b
  have h : (∑ i, ∑ j, (X i (col j a) - mu X a) * (X i (col j b) - mu X b))
      = Gram X a b - mu X a * Ssum X b - mu X b * Ssum X a + 65536 * (mu X a * mu X b) := by
    simp only [sub_mul, mul_sub, Finset.sum_sub_distrib, Gram, Ssum, Finset.mul_sum, Finset.sum_const, Finset.card_univ, Fintype.card_fin, nsmul_eq_mul]
    have e : ∀ i j, X i (col j a) * mu X b = mu X b * X i (col j a) := fun i j => mul_comm _ _
    simp only [e]
    push_cast
    ring
  unfold covK covR
  rw [h]
  unfold mu
  ring

/-- The norm of the covariance is positive. -/
theorem fro_pos (X : Fin 8192 → Fin 4096 → ℝ) : 0 < fro (covR X) := by
  have h0 : eps ≤ covR X 0 0 := by
    unfold covR
    have : 0 ≤ (∑ i, ∑ j, (X i (col j 0) - mu X 0) * (X i (col j 0) - mu X 0)) :=
      Finset.sum_nonneg fun i _ => Finset.sum_nonneg fun j _ => mul_self_nonneg _
    have e : eyeM 0 0 = 1 := if_pos rfl
    rw [e]; linarith [mul_nonneg this (by norm_num : (0 : ℝ) ≤ 1 / 65536)]
  have h1 : 0 < covR X 0 0 := eps_pos.trans_le h0
  unfold fro
  refine Real.sqrt_pos.mpr ?_
  refine (mul_pos h1 h1).trans_le ?_
  refine le_trans ?_ (Finset.single_le_sum (f := fun a => ∑ b, covR X a b * covR X a b) (fun a _ => Finset.sum_nonneg fun b _ => mul_self_nonneg _) (Finset.mem_univ 0))
  exact Finset.single_le_sum (f := fun b => covR X 0 b * covR X 0 b) (fun b _ => mul_self_nonneg _) (Finset.mem_univ 0)

/-! ## The last product -/

/-- The whitened weight: entry `(o, k)` of the weight's blocks times the matrix. -/
def wh (W : Fin 4096 → Fin 4096 → ℝ) (C : RM) (o k : Fin 4096) : ℝ := ∑ a, W o (col (qb k) a) * C a (rb k)

/-- The product of the centred row with the whitened weight, the mean taken out. -/
theorem last_eq (x : Fin 4096 → ℝ) (M : Fin 512 → ℝ) (W : Fin 4096 → Fin 4096 → ℝ) (C : RM) (o : Fin 4096) (b : EReal) :
    ((∑ k, (x k - M (rb k)) * wh W C o k : ℝ) : EReal) + b
      = ((∑ k, x k * wh W C o k : ℝ) : EReal) + (b - ((∑ j : Fin 8, ∑ c : Fin 512, wh W C o (col j c) * M c : ℝ) : EReal)) := by
  have h : (∑ k, (x k - M (rb k)) * wh W C o k) = (∑ k, x k * wh W C o k) - ∑ j : Fin 8, ∑ c : Fin 512, wh W C o (col j c) * M c := by
    simp only [sub_mul, Finset.sum_sub_distrib]
    rw [sum_col (fun k => M (rb k) * wh W C o k)]
    simp only [rb_col]
    congr 1
    exact Finset.sum_congr rfl fun j _ => Finset.sum_congr rfl fun c _ => mul_comm _ _
  rw [h]
  generalize (∑ k, x k * wh W C o k) = T
  generalize (∑ j : Fin 8, ∑ c : Fin 512, wh W C o (col j c) * M c) = U
  induction b with
  | bot => simp
  | top => rw [EReal.top_sub_coe, EReal.coe_add_top, EReal.coe_add_top]
  | coe b => rw [← EReal.coe_sub, ← EReal.coe_add, ← EReal.coe_add]; congr 1; ring

end Cert.Maths

end
-- ==== Proof.Value.StatsPay.lean ====
/- What the statistics kernel computes on one block of 512 rows, entry by entry at exact arithmetic. -/
module

public import proofs.«01_k».proof.Proof.Value.Math
public import proofs.«01_k».proof.Proof.KernelIdeal.Stats

@[expose] public section

set_option maxRecDepth 16384

noncomputable section

namespace Cert.KernelIdeal.Val

open Cert.Maths
open Idealize.ShloMosaic Idealize.ShloMosaic.TcCoe Idealize.SL.Sem
open Cert.KernelIdeal Cert.KernelIdeal.Gen

/-- The value of the named constant: one over 4095. -/
theorem dof_val : (Named.named (F := Ideal) κ "dof" 0x39800801#32 : Ideal .f32) = (((4095⁻¹ : ℝ)) : EReal) :=
  IdealRules.named_const.ideal_named_scalar κ "dof" _ _ rfl

/-- The first half block's layer norm. -/
theorem pay8_at (x : FVec Ideal S256x4096 .f32) (r : Fin 256) (l : Fin 4096) :
    k0_pay8 (F := Ideal) x (ix2 r l) = ln (fun k => x (ix2 r k)) l := by
  pointwise [k0_pay8, ln, cen, c_4096, c_eps, dof_val]

/-- The second half block's layer norm is the same function. -/
theorem pay13_at (x : FVec Ideal S256x4096 .f32) (r : Fin 256) (l : Fin 4096) :
    k0_pay13 (F := Ideal) x (ix2 r l) = ln (fun k => x (ix2 r k)) l := by
  pointwise [k0_pay13, ln, cen, c_4096, c_eps, dof_val]

theorem pay9_at (x : FVec Ideal S256x4096 .f32) (r : Fin 256) (l : Fin 4096) :
    k0_pay9 (F := Ideal) x (ix2 r l) = ln (fun k => x (ix2 r k)) l := by
  pointwise [k0_pay9]
  exact pay8_at x r l

theorem pay14_at (x : FVec Ideal S256x4096 .f32) (r : Fin 256) (l : Fin 4096) :
    k0_pay14 (F := Ideal) x (ix2 r l) = ln (fun k => x (ix2 r k)) l := by
  pointwise [k0_pay14]
  exact pay13_at x r l

/-- Sixteen terms added one after another onto a first, as two sums of eight. -/
theorem add16 (g : EReal) (u v : Fin 8 → EReal) :
    g + u 0 + u 1 + u 2 + u 3 + u 4 + u 5 + u 6 + u 7 + v 0 + v 1 + v 2 + v 3 + v 4 + v 5 + v 6 + v 7
      = g + (∑ j, u j + ∑ j, v j) := by
  rw [Fin.sum_univ_eight, Fin.sum_univ_eight]
  simp only [add_assoc]

/-- The column of block 0 is the column itself. -/
theorem col_zero (a : Fin 512) (h : a.val < 4096) : (⟨a.val, h⟩ : Fin 4096) = col 0 a := by
  ext; simp [col]

/-- The Gram matrix after a block: the matrix before it plus the products of the block's column blocks. -/
theorem gram_at (g : FVec Ideal S512x512 .f32) (xa xb : FVec Ideal S256x4096 .f32) (a b : Fin 512) :
    k0_pay1 (F := Ideal) (k0_pay14 xb) (k0_pay15 (k0_pay9 xa) (k0_pay10 g xa) (k0_pay11 xa) (constant S512x512 .f32 0x00000000#32) xb) (k0_pay16 xb) (ix2 a b)
      = g (ix2 a b) + ((∑ j : Fin 8, ∑ r : Fin 256, k0_pay8 (F := Ideal) xa (ix2 r (col j a)) * k0_pay8 (F := Ideal) xa (ix2 r (col j b)))
        + ∑ j : Fin 8, ∑ r : Fin 256, k0_pay13 (F := Ideal) xb (ix2 r (col j a)) * k0_pay13 (F := Ideal) xb (ix2 r (col j b))) := by
  pointwise [k0_pay1, k0_pay14, k0_pay15, k0_pay9, k0_pay10, k0_pay11, k0_pay16]
  rw [← add16]
  simp only [col_zero]
  rfl

/-- The row of column sums after a block. -/
theorem row_at (cs : FVec Ideal S1x4096 .f32) (ya yb : FVec Ideal S256x4096 .f32) (c : Fin 4096) :
    k0_pay2 (F := Ideal) (k0_pay12 k0_pay7 ya) yb cs (ix2 0 c) = cs (ix2 0 c) + (∑ r : Fin 256, ya (ix2 r c) + ∑ r : Fin 256, yb (ix2 r c)) := by
  pointwise [k0_pay2, k0_pay12, k0_pay7]

/-- The sum of the eight column blocks. -/
theorem pay3_at (v : FVec Ideal S1x4096 .f32) (l : Fin 512) :
    k0_pay3 (F := Ideal) v (ix2 0 l) = ∑ j : Fin 8, v (ix2 0 (col j l)) := by
  pointwise [k0_pay3]
  rw [Fin.sum_univ_eight]
  simp only [col_zero]
  rfl

/-- The mean, repeated over the eight column blocks. -/
theorem pay4_at (v : FVec Ideal S1x4096 .f32) (c : Fin 4096) :
    k0_pay4 (F := Ideal) v (ix2 0 c) = k0_pay3 (F := Ideal) v (ix2 0 (rb c)) * ((1 / 65536 : ℝ) : EReal) := by
  pointwise [k0_pay4, c_inv]
  have hc := c.isLt
  split_ifs
  all_goals
    refine congrArg (fun l : Fin 512 => k0_pay3 (F := Ideal) v (ix2 0 l) * ((1 / 65536 : ℝ) : EReal)) (Fin.ext ?_)
    simp only [rb]
    omega

end Cert.KernelIdeal.Val

end
-- ==== Proof.Value.NsPay.lean ====
/- What the whitening kernel computes at exact arithmetic on finite inputs: the covariance, its norm, five Newton-Schulz steps, and the
   weight's column blocks times the result. -/
module

public import proofs.«01_k».proof.Proof.Value.Math
public import proofs.«01_k».proof.Proof.KernelIdeal.Ns

@[expose] public section

set_option maxRecDepth 16384

noncomputable section

namespace Cert.KernelIdeal.Val

open Cert.Maths
open Idealize.ShloMosaic Idealize.ShloMosaic.TcCoe Idealize.SL.Sem
open Cert.KernelIdeal Cert.KernelIdeal.Gen

/-- The scalar square root and its reciprocal are those of the extended reals. -/
theorem scalar_sqrt (x : EReal) : (Scalar.sqrt (F := Ideal) (φ := .f32) x : Ideal .f32) = Ideal.sqrt x := rfl
theorem scalar_rsqrt (x : EReal) : (Scalar.rsqrt (F := Ideal) (φ := .f32) x : Ideal .f32) = Ideal.rsqrt x := rfl

/-- A real matrix as an array of extended reals. -/
def up (A : RM) : FVec Ideal S512x512 .f32 := fun j => ((A (j 0) (j 1) : ℝ) : EReal)

theorem up_at (A : RM) (a b : Fin 512) : up A (ix2 a b) = ((A a b : ℝ) : EReal) := rfl

/-- The matrix product, of real matrices. -/
theorem mm_up (A B : RM) :
    matmul dot_S512x512_S512x512_S512x512_1_0_0_1_n_n none (up A) (up B) (constant S512x512 .f32 0x00000000#32) = up (mulM A B) := by
  funext j
  idx_vars j
  pointwise [up_at, mulM, coe_sum, EReal.coe_mul]

/-- The unit matrix. -/
theorem eye_up : k1_pay4 (F := Ideal) = up eyeM := by
  funext j
  idx_vars j
  pointwise [k1_pay4, up_at, eyeM]
  by_cases h : j0 = j1
  · subst h
    simp [IntOp.cmpi, Scalar.select]
  · have hn : ¬ BitVec.ofNat 32 j0.val = BitVec.ofNat 32 j1.val := by
      intro e
      apply h
      have e' := congrArg BitVec.toNat e
      simp only [BitVec.toNat_ofNat] at e'
      have h0 := j0.isLt
      have h1 := j1.isLt
      ext
      omega
    have hb : (BitVec.ofNat 32 j0.val == BitVec.ofNat 32 j1.val) = false := beq_false_of_ne hn
    simp [IntOp.cmpi, Scalar.select, h, hb]

/-- A step's factor from the product. -/
def tOf (e M : FVec Ideal S512x512 .f32) : FVec Ideal S512x512 .f32 :=
  subf (mulf (broadcast S512x512 (Scalar.ofBits .f32 0x3FC00000#32)) e) (mulf (broadcast S512x512 (Scalar.ofBits .f32 0x3F000000#32)) M)

/-- A step's factor, of real matrices. -/
theorem t_up (M : RM) : tOf (up eyeM) (up M) = up (fun a b => 3 / 2 * eyeM a b - 1 / 2 * M a b) := by
  funext j
  idx_vars j
  pointwise [tOf, up_at, c_half, c_three_halves, EReal.coe_mul, EReal.coe_sub]

/-- One step on a pair of arrays. -/
def stOf (e : FVec Ideal S512x512 .f32) (p : FVec Ideal S512x512 .f32 × FVec Ideal S512x512 .f32) :
    FVec Ideal S512x512 .f32 × FVec Ideal S512x512 .f32 :=
  let t := tOf e (matmul dot_S512x512_S512x512_S512x512_1_0_0_1_n_n none p.2 p.1 (constant S512x512 .f32 0x00000000#32))
  (matmul dot_S512x512_S512x512_S512x512_1_0_0_1_n_n none p.1 t (constant S512x512 .f32 0x00000000#32),
    matmul dot_S512x512_S512x512_S512x512_1_0_0_1_n_n none t p.2 (constant S512x512 .f32 0x00000000#32))

/-- A step on real matrices is the real step. -/
theorem st_up (p : RM × RM) : stOf (up eyeM) (up p.1, up p.2) = (up (nsStep p).1, up (nsStep p).2) := by
  unfold stOf
  simp only [mm_up, t_up]
  rfl

/-- Steps from `(Y, 1)`, on real matrices. -/
theorem st_iter (Y : RM) : ∀ k, (stOf (up eyeM))^[k] (up Y, up eyeM) = (up (ns Y k).1, up (ns Y k).2)
  | 0 => rfl
  | k + 1 => by rw [Function.iterate_succ_apply', st_iter Y k, st_up]; rfl

/-- The kernel's matrix is five steps from the normalised covariance, scaled. -/
theorem cOf_eq (g : FVec Ideal S512x512 .f32) (s : FVec Ideal S1x512 .f32) :
    Ns.cOf (F := Ideal) g s
      = shapeCast S512x512 (mulf ((stOf (k1_pay4 (F := Ideal)))^[5] (k1_pay7 g s, k1_pay4)).2 (broadcast S512x512 (Scalar.rsqrt (k1_pay6 g s)))) shapeCasts_S512x512_S512x512 := by
  rfl

/-- The covariance from a finite Gram matrix and finite column sums. -/
theorem cov_at (G : RM) (S : Fin 512 → ℝ) (g : FVec Ideal S512x512 .f32) (s : FVec Ideal S1x512 .f32)
    (hg : g = up G) (hs : ∀ a : Fin 512, s (ix2 0 a) = ((S a : ℝ) : EReal)) :
    k1_pay5 (F := Ideal) g s = up (fun a b => G a b * (1 / 65536) - S a * S b * (1 / 65536 * (1 / 65536)) + eps * eyeM a b) := by
  subst hg
  funext j
  idx_vars j
  pointwise [k1_pay5, eye_up, up_at, c_inv, c_inv2, c_eps, EReal.coe_mul, EReal.coe_sub, EReal.coe_add]
  simp only [Fin.sum_univ_one]
  rw [← hs, ← hs]

/-- The norm. -/
theorem norm_at (C : RM) (g : FVec Ideal S512x512 .f32) (s : FVec Ideal S1x512 .f32) (h : k1_pay5 (F := Ideal) g s = up C) :
    k1_pay6 (F := Ideal) g s = ((fro C : ℝ) : EReal) := by
  unfold k1_pay6
  rw [h]
  pointwise [up_at]
  have e : (∑ x, ∑ y, ((C x y : ℝ) : EReal) * ((C x y : ℝ) : EReal)) = ((∑ x, ∑ y, C x y * C x y : ℝ) : EReal) := by
    simp only [coe_sum, EReal.coe_mul]
  rw [e]
  rw [scalar_sqrt]
  rw [Ideal.sqrt_coe, if_neg (not_lt.mpr (Finset.sum_nonneg fun a _ => Finset.sum_nonneg fun b _ => mul_self_nonneg _))]
  rfl

/-- The normalised covariance. -/
theorem y0_at (C : RM) (hC : 0 < fro C) (g : FVec Ideal S512x512 .f32) (s : FVec Ideal S1x512 .f32) (h : k1_pay5 (F := Ideal) g s = up C) :
    k1_pay7 (F := Ideal) g s = up (fun a b => C a b * (1 / fro C)) := by
  unfold k1_pay7
  rw [norm_at C g s h, h]
  funext j
  idx_vars j
  pointwise [up_at]
  rw [Ideal.div_coe hC.ne', one_mul, ← EReal.coe_mul]

/-- The whitening matrix. -/
theorem c_at (C : RM) (hC : 0 < fro C) (g : FVec Ideal S512x512 .f32) (s : FVec Ideal S1x512 .f32) (h : k1_pay5 (F := Ideal) g s = up C) :
    Ns.cOf (F := Ideal) g s = up (isq C) := by
  rw [cOf_eq, norm_at C g s h, y0_at C hC g s h, eye_up, st_iter]
  funext j
  idx_vars j
  pointwise [up_at, isq]
  rw [scalar_rsqrt]
  rw [Ideal.rsqrt_coe, if_neg (not_lt.mpr hC.le), if_neg hC.ne', ← EReal.coe_mul, one_div (Real.sqrt (fro C))]

/-- Column block 0 of the weight, times the matrix. -/
theorem wt0_at (C : RM) (w : FVec Ideal S512x512 .f32) (a b : Fin 512) :
    k1_pay14 (F := Ideal) (up C) w (ix2 a b) = ∑ k, ((C k a : ℝ) : EReal) * w (ix2 b k) := by
  pointwise [k1_pay14, up_at]

/-- Column block 1 of the weight, times the matrix. -/
theorem wt1_at (C : RM) (w : FVec Ideal S512x512 .f32) (a b : Fin 512) :
    k1_pay15 (F := Ideal) (up C) w (ix2 a b) = ∑ k, ((C k a : ℝ) : EReal) * w (ix2 b k) := by
  pointwise [k1_pay15, up_at]

/-- Column block 2 of the weight, times the matrix. -/
theorem wt2_at (C : RM) (w : FVec Ideal S512x512 .f32) (a b : Fin 512) :
    k1_pay16 (F := Ideal) (up C) w (ix2 a b) = ∑ k, ((C k a : ℝ) : EReal) * w (ix2 b k) := by
  pointwise [k1_pay16, up_at]

/-- Column block 3 of the weight, times the matrix. -/
theorem wt3_at (C : RM) (w : FVec Ideal S512x512 .f32) (a b : Fin 512) :
    k1_pay17 (F := Ideal) (up C) w (ix2 a b) = ∑ k, ((C k a : ℝ) : EReal) * w (ix2 b k) := by
  pointwise [k1_pay17, up_at]

/-- Column block 4 of the weight, times the matrix. -/
theorem wt4_at (C : RM) (w : FVec Ideal S512x512 .f32) (a b : Fin 512) :
    k1_pay18 (F := Ideal) (up C) w (ix2 a b) = ∑ k, ((C k a : ℝ) : EReal) * w (ix2 b k) := by
  pointwise [k1_pay18, up_at]

/-- Column block 5 of the weight, times the matrix. -/
theorem wt5_at (C : RM) (w : FVec Ideal S512x512 .f32) (a b : Fin 512) :
    k1_pay19 (F := Ideal) (up C) w (ix2 a b) = ∑ k, ((C k a : ℝ) : EReal) * w (ix2 b k) := by
  pointwise [k1_pay19, up_at]

/-- Column block 6 of the weight, times the matrix. -/
theorem wt6_at (C : RM) (w : FVec Ideal S512x512 .f32) (a b : Fin 512) :
    k1_pay2 (F := Ideal) (up C) w (ix2 a b) = ∑ k, ((C k a : ℝ) : EReal) * w (ix2 b k) := by
  pointwise [k1_pay2, up_at]

/-- Column block 7 of the weight, times the matrix. -/
theorem wt7_at (C : RM) (w : FVec Ideal S512x512 .f32) (a b : Fin 512) :
    k1_pay3 (F := Ideal) (up C) w (ix2 a b) = ∑ k, ((C k a : ℝ) : EReal) * w (ix2 b k) := by
  pointwise [k1_pay3, up_at]

end Cert.KernelIdeal.Val

end
-- ==== Proof.Value.StatsArr.lean ====
/- The arrays after the first kernel: the normalised rows, their Gram matrix, their column sums and their mean row. -/
module

public import proofs.«01_k».proof.Proof.Value.StatsPay
public import proofs.«01_k».proof.Proof.Value.NsPay
public import Idealize.ShloMosaic.Lib.Pipeline.ValueKit

@[expose] public section

set_option maxRecDepth 16384

noncomputable section

namespace Cert.KernelIdeal.Val

open Cert.Maths
open Idealize.ShloMosaic Idealize.ShloMosaic.TcCoe Idealize.SL.Sem
open Idealize.ShloMosaic.Pipeline (Dat)
open Cert.KernelIdeal Cert.KernelIdeal.Gen

/-! ## One block -/

/-- Rows of the two halves of a block of 512 rows. -/
def lo (r : Fin 256) : Fin 512 := ⟨r.val, by omega⟩
def hi (r : Fin 256) : Fin 512 := ⟨256 + r.val, by omega⟩

/-- A sum over the rows of a block, half by half. -/
theorem half_sum {M : Type*} [AddCommMonoid M] (f : Fin 512 → M) : ∑ i, f i = ∑ r, f (lo r) + ∑ r, f (hi r) := by
  rw [Fin.sum_univ_tiles 2 256 rfl f, Fin.sum_univ_two]
  refine congrArg₂ (· + ·) (Finset.sum_congr rfl fun r _ => congrArg f (Fin.ext ?_)) (Finset.sum_congr rfl fun r _ => congrArg f (Fin.ext ?_))
  · simp [lo]
  · simp [hi]

/-- The normalised rows of a block. -/
def zb (x : FVec Ideal S512x4096 .f32) (r : Fin 512) (k : Fin 4096) : ℝ := lnr (fun l => x (ix2 r l)) k

theorem ldA (x : FVec Ideal S512x4096 .f32) (r : Fin 256) (k : Fin 4096) : View.ld (Val := Elt Ideal) (e' := .f32) x Stats.rA (ix2 r k) = x (ix2 (lo r) k) :=
  View.ld_unit_apply_of (Val := Elt Ideal) (e := .f32) x _ _ _ _ _ fun i => by fin_cases i <;> simp [lo]

theorem ldB (x : FVec Ideal S512x4096 .f32) (r : Fin 256) (k : Fin 4096) : View.ld (Val := Elt Ideal) (e' := .f32) x Stats.rB (ix2 r k) = x (ix2 (hi r) k) :=
  View.ld_unit_apply_of (Val := Elt Ideal) (e := .f32) x _ _ _ _ _ fun i => by fin_cases i <;> simp [hi]

theorem ldR (x : FVec Ideal S8x4096 .f32) (k : Fin 4096) : View.ld (Val := Elt Ideal) (e' := .f32) x Stats.rR (ix2 0 k) = x (ix2 0 k) :=
  View.ld_unit_apply_of (Val := Elt Ideal) (e := .f32) x _ _ _ _ _ fun i => by fin_cases i <;> simp

theorem p8 (x : FVec Ideal S512x4096 .f32) (r : Fin 256) (k : Fin 4096) : k0_pay8 (F := Ideal) (View.ld x Stats.rA) (ix2 r k) = (zb x (lo r) k : EReal) := by
  refine (pay8_at _ r k).trans ((lnr_spec _ k).trans ?_)
  exact congrArg (fun f => ((lnr f k : ℝ) : EReal)) (funext fun l => ldA x r l)

theorem p13 (x : FVec Ideal S512x4096 .f32) (r : Fin 256) (k : Fin 4096) : k0_pay13 (F := Ideal) (View.ld x Stats.rB) (ix2 r k) = (zb x (hi r) k : EReal) := by
  refine (pay13_at _ r k).trans ((lnr_spec _ k).trans ?_)
  exact congrArg (fun f => ((lnr f k : ℝ) : EReal)) (funext fun l => ldB x r l)

/-- A block of the normalised rows. -/
theorem xn_pt (x : FVec Ideal S512x4096 .f32) (y : S512x4096.Idx) : Stats.xnOut (F := Ideal) x y = (zb x (y 0) (y 1) : EReal) := by
  unfold Stats.xnOut
  canon_tiles u h
  case piece0 =>
    idx_vars u
    refine (pay14_at _ _ _).trans ((lnr_spec _ _).trans ?_)
    have e0 : y 0 = hi u0 := Fin.ext (by simpa [hi] using h0)
    have e1 : y 1 = u1 := Fin.ext (by simpa using h1)
    rw [e0, e1]
    exact congrArg (fun f => ((lnr f u1 : ℝ) : EReal)) (funext fun l => ldB x u0 l)
  case piece1 =>
    idx_vars u
    refine (pay9_at _ _ _).trans ((lnr_spec _ _).trans ?_)
    have e0 : y 0 = lo u0 := Fin.ext (by simpa [lo] using h0)
    have e1 : y 1 = u1 := Fin.ext (by simpa using h1)
    rw [e0, e1]
    exact congrArg (fun f => ((lnr f u1 : ℝ) : EReal)) (funext fun l => ldA x u0 l)

/-- The Gram matrix after a block. -/
theorem gram_pt (x : FVec Ideal S512x4096 .f32) (G : RM) : Stats.gramOut (F := Ideal) x (up G) = up (fun a b => G a b + Gram (zb x) a b) := by
  funext j
  idx_vars j
  unfold Stats.gramOut
  refine (gram_at _ _ _ j0 j1).trans ?_
  simp only [p8, p13, up_at, ← EReal.coe_mul, ← coe_sum, ← EReal.coe_add]
  refine congrArg _ (congrArg _ ?_)
  unfold Gram
  rw [half_sum]
  exact congrArg₂ (· + ·) Finset.sum_comm Finset.sum_comm

/-- The row of column sums after a block. -/
theorem row_pt (x : FVec Ideal S512x4096 .f32) (cs : FVec Ideal S8x4096 .f32) (k : Fin 4096) :
    Stats.rowOut (F := Ideal) x cs (ix2 0 k) = cs (ix2 0 k) + ((∑ r, zb x r k : ℝ) : EReal) := by
  unfold Stats.rowOut
  refine (row_at _ _ _ k).trans ?_
  simp only [p8, p13, ← coe_sum, ← EReal.coe_add]
  rw [half_sum]
  exact congrArg (· + _) (ldR cs k)

/-- Row 0 of the column sums after a block. -/
theorem cs_pt (x : FVec Ideal S512x4096 .f32) (cs : FVec Ideal S8x4096 .f32) (k : Fin 4096) :
    Stats.csOut (F := Ideal) x cs (ix2 0 k) = Stats.rowOut (F := Ideal) x cs (ix2 0 k) := by
  unfold Stats.csOut
  have h := congrFun (VecWindow.window_put_same (s := S8x4096) cs ![0, 0] S1x4096.size inb_S8x4096_S1x4096_0_0 (Stats.rowOut (F := Ideal) x cs)) (ix2 0 k)
  refine Eq.trans ?_ h
  exact congrArg (VecWindow.put cs ![0, 0] S1x4096.size (Stats.rowOut (F := Ideal) x cs)) (funext fun i => Fin.ext (by fin_cases i <;> simp))

/-- The first 512 columns of row 0 after the last block: the sums over the column blocks. -/
theorem last_pt (x : FVec Ideal S512x4096 .f32) (cs : FVec Ideal S8x4096 .f32) (a : Fin 512) :
    Stats.csLast (F := Ideal) x cs (ix2 0 (col 0 a)) = ∑ j : Fin 8, Stats.rowOut (F := Ideal) x cs (ix2 0 (col j a)) := by
  unfold Stats.csLast
  have h := congrFun (VecWindow.window_put_same (s := S8x4096) (Stats.csOut (F := Ideal) x cs) ![0, 0] S1x512.size inb_S8x4096_S1x512_0_0 (k0_pay3 (Stats.rowOut (F := Ideal) x cs))) (ix2 0 a)
  refine Eq.trans ?_ (h.trans (pay3_at _ a))
  exact congrArg (VecWindow.put (Stats.csOut (F := Ideal) x cs) ![0, 0] S1x512.size (k0_pay3 (Stats.rowOut (F := Ideal) x cs))) (funext fun i => Fin.ext (by fin_cases i <;> simp [col]))

theorem zero5 : k0_pay5 (F := Ideal) = up (fun _ _ => 0) := by
  funext j
  idx_vars j
  pointwise [k0_pay5, up_at]
  rfl

theorem zero6 (k : Fin 4096) : k0_pay6 (F := Ideal) (ix2 0 k) = ((0 : ℝ) : EReal) := by
  pointwise [k0_pay6]
  rfl

/-! ## The running sums -/

variable (W : (c : Dev nD) → (b : DevRef τ sig) → b.ty.Contents (Elt Ideal))

/-- The normalised rows of the block of point `t`, nothing past the last point. -/
def zt (c : Dev nD) (t : ℕ) : Fin 512 → Fin 4096 → ℝ := if h : t < cfg0.N then zb (Stats.iblk W c 0 ⟨t, h⟩) else fun _ _ => 0

theorem zt_eq (c : Dev nD) (t : ℕ) (h : t < cfg0.N) : zt W c t = zb (Stats.iblk W c 0 ⟨t, h⟩) := dif_pos h

/-- What the running sums hold after point `n`. -/
theorem acc_eq (c : Dev nD) (n : ℕ) (h : n < cfg0.N) :
    (Stats.accAt W c n h).1 = up (fun a b => ∑ t ∈ Finset.range (n + 1), Gram (zt W c t) a b)
    ∧ ∀ k : Fin 4096, (Stats.accAt W c n h).2 (ix2 0 k) = ((∑ t ∈ Finset.range (n + 1), ∑ r, zt W c t r k : ℝ) : EReal) := by
  induction n with
  | zero =>
    refine ⟨?_, fun k => ?_⟩
    · show Stats.gramOut (Stats.iblk W c 0 ⟨0, h⟩) (k0_pay5 (F := Ideal)) = _
      rw [zero5]
      refine (gram_pt _ _).trans ?_
      simp only [zero_add, Finset.sum_range_one, zt_eq W c 0 h]
    · show Stats.csOut (Stats.iblk W c 0 ⟨0, h⟩) (k0_pay6 (F := Ideal)) (ix2 0 k) = _
      refine (cs_pt _ _ k).trans ((row_pt _ _ k).trans ?_)
      rw [zero6, ← EReal.coe_add]
      simp only [zero_add, Finset.sum_range_one, zt_eq W c 0 h]
  | succ n ih =>
    obtain ⟨i1, i2⟩ := ih (Nat.lt_of_succ_lt h)
    refine ⟨?_, fun k => ?_⟩
    · show Stats.gramOut (Stats.iblk W c 0 ⟨n + 1, h⟩) (Stats.accAt W c n (Nat.lt_of_succ_lt h)).1 = _
      rw [i1]
      refine (gram_pt _ _).trans ?_
      simp only [Finset.sum_range_succ _ (n + 1), zt_eq W c (n + 1) h]
    · show Stats.csOut (Stats.iblk W c 0 ⟨n + 1, h⟩) (Stats.accAt W c n (Nat.lt_of_succ_lt h)).2 (ix2 0 k) = _
      refine (cs_pt _ _ k).trans ((row_pt _ _ k).trans ?_)
      rw [i2 k, ← EReal.coe_add, Finset.sum_range_succ _ (n + 1), zt_eq W c (n + 1) h]

/-! ## The arrays -/

/-- The windows' blocks at a point. -/
theorem idx0 : ∀ t : Fin cfg0.N, win0_0.index t = ![t.val, 0] ∧ win0_1.index t = ![t.val, 0] ∧ win0_2.index t = ![0, 0] ∧ win0_3.index t = ![0, 0]
    ∧ win0_4.index t = ![0, 0] :=
  (by decide +kernel : ∀ t : Fin grid0.N, _)

/-- The normalised rows of the whole argument. -/
def Xof (x : FVec Ideal S8192x4096 .f32) : Fin 8192 → Fin 4096 → ℝ := fun i k => lnr (fun l => x (ix2 i l)) k

/-- Row `r` of block `t`. -/
def rowI (t : Fin 16) (r : Fin 512) : Fin 8192 := ⟨t.val * 512 + r.val, by omega⟩

/-- A block's normalised rows are rows of the whole argument's. -/
theorem zb_row (c : Dev nD) (x : FVec Ideal S8192x4096 .f32) (hx : W c (Proc.devRef .tc main_arg0) = x) (t : Fin cfg0.N) (r : Fin 512) (k : Fin 4096) :
    zb (Stats.iblk W c 0 t) r k = Xof x (rowI ⟨t.val, lt_of_lt_of_eq t.isLt N_0⟩ r) k := by
  refine congrArg (fun f => lnr f k) (funext fun l => ?_)
  rw [← hx]
  blk_point [Stats.iblk, idx0 t, rowI]

/-- A sum over all rows, block by block. -/
theorem sum_blocks {M : Type*} [AddCommMonoid M] (f : Fin 8192 → M) : ∑ i, f i = ∑ t : Fin 16, ∑ r : Fin 512, f (rowI t r) :=
  Fin.sum_univ_tiles 16 512 rfl f

/-- A sum over the points of what each block gives is the sum over all rows. -/
theorem sum_zt {M : Type*} [AddCommMonoid M] (c : Dev nD) (x : FVec Ideal S8192x4096 .f32) (hx : W c (Proc.devRef .tc main_arg0) = x) (f : (Fin 4096 → ℝ) → M) :
    ∑ t ∈ Finset.range 16, ∑ r, f (zt W c t r) = ∑ i, f (Xof x i) := by
  rw [sum_blocks, Finset.sum_range]
  refine Finset.sum_congr rfl fun t _ => Finset.sum_congr rfl fun r _ => congrArg f ?_
  rw [zt_eq W c t.val (lt_of_lt_of_eq t.isLt N_0.symm)]
  funext k
  exact zb_row W c x hx _ r k

/-- The array of normalised rows. -/
theorem xn_arr (c : Dev nD) (x : FVec Ideal S8192x4096 .f32) (hx : W c (Proc.devRef .tc main_arg0) = x) :
    (Stats.dat W c).arrAt 1 cfg0.N = (fun j => ((Xof x (j 0) (j 1) : ℝ) : EReal) : FVec Ideal S8192x4096 .bf16) := by
  refine (Stats.dat W c).arrAt_eq_of_covers 1 _ (by decide +kernel) fun t _ y => ?_
  blk_simp
  rw [Stats.after_1]
  refine (xn_pt _ y).trans ?_
  refine congrArg _ ((zb_row W c x hx t _ _).trans ?_)
  refine congrArg₂ (Xof x) (Fin.ext ?_) (Fin.ext ?_)
  · blk_simp [idx0 t, rowI]
  · blk_simp [idx0 t]

/-- The Gram matrix. -/
theorem gram_arr (c : Dev nD) (x : FVec Ideal S8192x4096 .f32) (hx : W c (Proc.devRef .tc main_arg0) = x) :
    (Stats.dat W c).arrAt 2 cfg0.N = up (Gram (Xof x)) := by
  have e : (Stats.accAt W c t0_15.val t0_15.isLt).1 = up (Gram (Xof x)) := by
    refine (acc_eq W c _ _).1.trans ?_
    refine congrArg up (funext fun a => funext fun b => ?_)
    exact sum_zt W c x hx fun z => ∑ j, z (col j a) * z (col j b)
  refine (Stats.dat W c).arrAt_eq_of_after_last 2 t0_15 (by decide +kernel) _ fun j => ?_
  blk_simp
  rw [Stats.after_2, e]

/-- The row of column sums at the last point. -/
theorem row_tot (c : Dev nD) (x : FVec Ideal S8192x4096 .f32) (hx : W c (Proc.devRef .tc main_arg0) = x) (k : Fin 4096) :
    Stats.rowOut (F := Ideal) (Stats.iblk W c 0 t0_15) (Stats.prevAt W c t0_15).2 (ix2 0 k) = ((∑ i, Xof x i k : ℝ) : EReal) := by
  have e := congrArg Prod.snd (Stats.accAt_pos W c t0_15 (by decide))
  refine (cs_pt _ _ k).symm.trans ((congrFun e.symm (ix2 0 k)).trans ?_)
  refine ((acc_eq W c _ _).2 k).trans ?_
  exact congrArg (fun r : ℝ => (r : EReal)) (sum_zt W c x hx fun z => z k)

/-- The column sums over the column blocks. -/
theorem row_cols (c : Dev nD) (x : FVec Ideal S8192x4096 .f32) (hx : W c (Proc.devRef .tc main_arg0) = x) (a : Fin 512) :
    ∑ j : Fin 8, Stats.rowOut (F := Ideal) (Stats.iblk W c 0 t0_15) (Stats.prevAt W c t0_15).2 (ix2 0 (col j a)) = ((Ssum (Xof x) a : ℝ) : EReal) := by
  simp only [row_tot W c x hx, ← coe_sum]
  exact congrArg _ Finset.sum_comm

/-- The mean row's array. -/
theorem mean_arr (c : Dev nD) (x : FVec Ideal S8192x4096 .f32) (hx : W c (Proc.devRef .tc main_arg0) = x) :
    (Stats.dat W c).arrAt 3 cfg0.N = (fun j => ((mu (Xof x) (rb (j 1)) : ℝ) : EReal) : FVec Ideal S1x4096 .bf16) := by
  have e : Stats.meanOut (F := Ideal) (Stats.iblk W c 0 t0_15) (Stats.prevAt W c t0_15).2 = (fun j => ((mu (Xof x) (rb (j 1)) : ℝ) : EReal) : FVec Ideal S1x4096 .bf16) := by
    funext j
    idx_vars j
    have z : j0 = 0 := Fin.ext (by omega)
    subst z
    unfold Stats.meanOut
    refine (pay4_at _ j1).trans ?_
    rw [pay3_at, row_cols W c x hx, ← EReal.coe_mul]
    rfl
  refine (Stats.dat W c).arrAt_eq_of_after_last 3 t0_15 (by decide +kernel) _ fun j => ?_
  blk_simp
  rw [Stats.after_3, e]

/-- The column sums' array, its first 512 entries. -/
theorem cs_arr (c : Dev nD) (x : FVec Ideal S8192x4096 .f32) (hx : W c (Proc.devRef .tc main_arg0) = x) :
    ∃ s : FVec Ideal S8x4096 .f32, (Stats.dat W c).arrAt 4 cfg0.N = s ∧ ∀ a : Fin 512, s (ix2 0 (col 0 a)) = ((Ssum (Xof x) a : ℝ) : EReal) := by
  refine ⟨Stats.csLast (F := Ideal) (Stats.iblk W c 0 t0_15) (Stats.prevAt W c t0_15).2, ?_, fun a => (last_pt _ _ a).trans (row_cols W c x hx a)⟩
  have e : Stats.csAfter W c t0_15 = Stats.csLast (F := Ideal) (Stats.iblk W c 0 t0_15) (Stats.prevAt W c t0_15).2 := if_pos (by decide)
  refine (Stats.dat W c).arrAt_eq_of_after_last 4 t0_15 (by decide +kernel) _ fun j => ?_
  blk_simp
  rw [Stats.after_4, e]

end Cert.KernelIdeal.Val

end
-- ==== Proof.Value.NsArr.lean ====
/- The whitened weight after the second kernel: one closed form over the weight and the whitening matrix. -/
module

public import proofs.«01_k».proof.Proof.Value.NsPay
public import Idealize.ShloMosaic.Lib.Pipeline.ValueKit

@[expose] public section

set_option maxRecDepth 16384

noncomputable section

namespace Cert.KernelIdeal.Val

open Cert.Maths
open Idealize.ShloMosaic Idealize.ShloMosaic.TcCoe Idealize.SL.Sem
open Idealize.ShloMosaic.Pipeline (Dat)
open Cert.KernelIdeal Cert.KernelIdeal.Gen

variable (W : (c : Dev nD) → (b : DevRef τ sig) → b.ty.Contents (Elt Ideal))

/-- The whitened weight's windows at a point: point 0 and point 1 share block 0, and later points step on by one. -/
theorem idx1 : ∀ t : Fin cfg1.N, win1_0.index t = ![0, 0] ∧ win1_1.index t = ![0, 0] ∧ win1_2.index t = ![t.val - 1, 0] ∧ win1_3.index t = ![0, t.val - 1] :=
  (by decide +kernel : ∀ t : Fin grid1.N, _)

/-- The whitened weight from a whitening matrix and the weight. -/
def wtF (C : RM) (w : FVec Ideal S4096x4096 .f32) : FVec Ideal S4096x4096 .bf16 := fun j => ∑ k : Fin 512, (C k (rb (j 0)) : EReal) * w (ix2 (j 1) (col (qb (j 0)) k))

/-- One of the eight stores of a point's block: a tile of 512 rows, from column block `j` of the weight's rows. -/
theorem tile_pt (j : Fin 8) (C : RM) (w : FVec Ideal S512x4096 .f32) (v : FVec Ideal S512x512 .f32) (hv : ∀ b k : Fin 512, v (ix2 b k) = w (ix2 b (col j k)))
    (y0 : Fin 4096) (y1 a b : Fin 512) (h0 : y0.val = 512 * j.val + a.val) (h1 : y1.val = b.val) :
    (∑ k : Fin 512, (C k a : EReal) * v (ix2 b k)) = ∑ k : Fin 512, (C k (rb y0) : EReal) * w (ix2 y1 (col (qb y0) k)) := by
  have e : y0 = col j a := by ext; simp only [col]; omega
  have e1 : y1 = b := Fin.ext h1
  subst e e1
  rw [qb_col, rb_col]
  exact Finset.sum_congr rfl fun k _ => by rw [hv]

theorem ldW0 (w : FVec Ideal S512x4096 .f32) (b k : Fin 512) : View.ld (Val := Elt Ideal) (e' := .f32) w Ns.rW0 (ix2 b k) = w (ix2 b (col 0 k)) := by
  exact View.ld_unit_apply_of (Val := Elt Ideal) (e := .f32) w _ _ _ _ _ fun i => by fin_cases i <;> simp [col]

theorem ldW1 (w : FVec Ideal S512x4096 .f32) (b k : Fin 512) : View.ld (Val := Elt Ideal) (e' := .f32) w Ns.rW1 (ix2 b k) = w (ix2 b (col 1 k)) := by
  exact View.ld_unit_apply_of (Val := Elt Ideal) (e := .f32) w _ _ _ _ _ fun i => by fin_cases i <;> simp [col]

theorem ldW2 (w : FVec Ideal S512x4096 .f32) (b k : Fin 512) : View.ld (Val := Elt Ideal) (e' := .f32) w Ns.rW2 (ix2 b k) = w (ix2 b (col 2 k)) := by
  exact View.ld_unit_apply_of (Val := Elt Ideal) (e := .f32) w _ _ _ _ _ fun i => by fin_cases i <;> simp [col]

theorem ldW3 (w : FVec Ideal S512x4096 .f32) (b k : Fin 512) : View.ld (Val := Elt Ideal) (e' := .f32) w Ns.rW3 (ix2 b k) = w (ix2 b (col 3 k)) := by
  exact View.ld_unit_apply_of (Val := Elt Ideal) (e := .f32) w _ _ _ _ _ fun i => by fin_cases i <;> simp [col]

theorem ldW4 (w : FVec Ideal S512x4096 .f32) (b k : Fin 512) : View.ld (Val := Elt Ideal) (e' := .f32) w Ns.rW4 (ix2 b k) = w (ix2 b (col 4 k)) := by
  exact View.ld_unit_apply_of (Val := Elt Ideal) (e := .f32) w _ _ _ _ _ fun i => by fin_cases i <;> simp [col]

theorem ldW5 (w : FVec Ideal S512x4096 .f32) (b k : Fin 512) : View.ld (Val := Elt Ideal) (e' := .f32) w Ns.rW5 (ix2 b k) = w (ix2 b (col 5 k)) := by
  exact View.ld_unit_apply_of (Val := Elt Ideal) (e := .f32) w _ _ _ _ _ fun i => by fin_cases i <;> simp [col]

theorem ldW6 (w : FVec Ideal S512x4096 .f32) (b k : Fin 512) : View.ld (Val := Elt Ideal) (e' := .f32) w Ns.rW6 (ix2 b k) = w (ix2 b (col 6 k)) := by
  exact View.ld_unit_apply_of (Val := Elt Ideal) (e := .f32) w _ _ _ _ _ fun i => by fin_cases i <;> simp [col]

theorem ldW7 (w : FVec Ideal S512x4096 .f32) (b k : Fin 512) : View.ld (Val := Elt Ideal) (e' := .f32) w Ns.rW7 (ix2 b k) = w (ix2 b (col 7 k)) := by
  exact View.ld_unit_apply_of (Val := Elt Ideal) (e := .f32) w _ _ _ _ _ fun i => by fin_cases i <;> simp [col]

/-- One point's block of the whitened weight. -/
theorem outB_pt (C : RM) (w : FVec Ideal S512x4096 .f32) (y : S4096x512.Idx) :
    Ns.outB (F := Ideal) (up C) w y = ∑ k : Fin 512, (C k (rb (y 0)) : EReal) * w (ix2 (y 1) (col (qb (y 0)) k)) := by
  unfold Ns.outB Ns.outPieces
  canon_tiles x h
  case piece0 =>
    idx_vars x
    exact (wt7_at C _ _ _).trans (tile_pt 7 C w _ (ldW7 w) _ _ _ _ (by simpa using h0) (by simpa using h1))
  case piece1 =>
    idx_vars x
    exact (wt6_at C _ _ _).trans (tile_pt 6 C w _ (ldW6 w) _ _ _ _ (by simpa using h0) (by simpa using h1))
  case piece2 =>
    idx_vars x
    exact (wt5_at C _ _ _).trans (tile_pt 5 C w _ (ldW5 w) _ _ _ _ (by simpa using h0) (by simpa using h1))
  case piece3 =>
    idx_vars x
    exact (wt4_at C _ _ _).trans (tile_pt 4 C w _ (ldW4 w) _ _ _ _ (by simpa using h0) (by simpa using h1))
  case piece4 =>
    idx_vars x
    exact (wt3_at C _ _ _).trans (tile_pt 3 C w _ (ldW3 w) _ _ _ _ (by simpa using h0) (by simpa using h1))
  case piece5 =>
    idx_vars x
    exact (wt2_at C _ _ _).trans (tile_pt 2 C w _ (ldW2 w) _ _ _ _ (by simpa using h0) (by simpa using h1))
  case piece6 =>
    idx_vars x
    exact (wt1_at C _ _ _).trans (tile_pt 1 C w _ (ldW1 w) _ _ _ _ (by simpa using h0) (by simpa using h1))
  case piece7 =>
    idx_vars x
    exact (wt0_at C _ _ _).trans (tile_pt 0 C w _ (ldW0 w) _ _ _ _ (by simpa using h0) (by simpa using h1))

/-- The whitened weight's array. -/
theorem wt_arr (c : Dev nD) (C : RM) (w : FVec Ideal S4096x4096 .f32) (hC : Ns.cC W c = up C) (hw : W c (Proc.devRef .tc main_arg1) = w) :
    (Ns.dat W c).arrAt 3 cfg1.N = wtF C w := by
  refine (Ns.dat W c).arrAt_eq_of_covers 3 _ (by decide +kernel) fun t _ y => ?_
  blk_simp
  rw [Ns.after_3, hC]
  refine (outB_pt C _ y).trans ?_
  unfold wtF
  have h0 : ((win1_3.blk t).view.emb y) 0 = y 0 := Fin.ext (by blk_simp [idx1 t])
  refine Finset.sum_congr rfl fun k _ => ?_
  rw [h0, ← hw]
  refine congrArg₂ (· * ·) rfl ?_
  blk_point [Ns.iblk, idx1 t]

end Cert.KernelIdeal.Val

end
-- ==== Proof.Value.FinalPay.lean ====
/- What the last kernel computes on one block of 256 rows at exact arithmetic. -/
module

public import proofs.«01_k».proof.Proof.Value.Math
public import proofs.«01_k».proof.Proof.KernelIdeal.Final

@[expose] public section

set_option maxRecDepth 16384

noncomputable section

namespace Cert.KernelIdeal.Val

open Cert.Maths
open Idealize.ShloMosaic Idealize.ShloMosaic.TcCoe Idealize.SL.Sem
open Cert.KernelIdeal Cert.KernelIdeal.Gen

/-- The product of the centred rows with the whitened weight, plus the bias. -/
theorem out_at (x : FVec Ideal S256x4096 .bf16) (m : FVec Ideal S1x4096 .bf16) (w : FVec Ideal S4096x4096 .bf16) (b : FVec Ideal S1x4096 .f32)
    (r : Fin 256) (o : Fin 4096) :
    k2_pay1 (F := Ideal) x m w b (ix2 r o) = (∑ k : Fin 4096, (x (ix2 r k) - m (ix2 0 k)) * w (ix2 k o)) + b (ix2 0 o) := by
  pointwise [k2_pay1]

end Cert.KernelIdeal.Val

end
-- ==== Proof.Value.FinalArr.lean ====
/- The result array after the last kernel: one closed form over the arrays it reads. -/
module

public import proofs.«01_k».proof.Proof.Value.FinalPay
public import Idealize.ShloMosaic.Lib.Pipeline.ValueKit

@[expose] public section

set_option maxRecDepth 16384

noncomputable section

namespace Cert.KernelIdeal.Val

open Cert.Maths
open Idealize.ShloMosaic Idealize.ShloMosaic.TcCoe Idealize.SL.Sem
open Idealize.ShloMosaic.Pipeline (Dat)
open Cert.KernelIdeal Cert.KernelIdeal.Gen

variable (W : (c : Dev nD) → (b : DevRef τ sig) → b.ty.Contents (Elt Ideal))

/-- Every window's block at a point. -/
theorem idx2 : ∀ t : Fin cfg2.N, win2_0.index t = ![t.val, 0] ∧ win2_1.index t = ![0, 0] ∧ win2_2.index t = ![0, 0] ∧ win2_3.index t = ![0, 0]
    ∧ win2_4.index t = ![t.val, 0] :=
  (by decide +kernel : ∀ t : Fin grid2.N, _)

/-- The result over the normalised rows, the whitened weight, the mean row and the bias row. -/
def outF (x : FVec Ideal S8192x4096 .bf16) (w : FVec Ideal S4096x4096 .bf16) (m : FVec Ideal S1x4096 .bf16) (b : FVec Ideal S1x4096 .f32) :
    FVec Ideal S8192x4096 .f32 := fun j => (∑ k : Fin 4096, (x (ix2 (j 0) k) - m (ix2 0 k)) * w (ix2 k (j 1))) + b (ix2 0 (j 1))

/-- One point's block of the result. -/
theorem out_pt (x : FVec Ideal S256x4096 .bf16) (w : FVec Ideal S4096x4096 .bf16) (m : FVec Ideal S1x4096 .bf16) (b : FVec Ideal S1x4096 .f32)
    (y : S256x4096.Idx) :
    Final.out (F := Ideal) x w m b y = (∑ k : Fin 4096, (x (ix2 (y 0) k) - m (ix2 0 k)) * w (ix2 k (y 1))) + b (ix2 0 (y 1)) := by
  unfold Final.out
  idx_vars y
  rw [View.canon_unit_zero, View.ld_unit_zero, View.ld_unit_zero, View.ld_unit_zero, View.ld_unit_zero]
  · exact out_at x m w b y0 y1
  all_goals (funext i; fin_cases i <;> rfl)

/-- The result array. -/
theorem final_arr (c : Dev nD) (x : FVec Ideal S8192x4096 .bf16) (w : FVec Ideal S4096x4096 .bf16) (m : FVec Ideal S1x4096 .bf16) (b : FVec Ideal S1x4096 .f32)
    (hx : W c (Proc.devRef .tc main_call0_v0_0) = x) (hw : W c (Proc.devRef .tc main_call0_v1) = w)
    (hm : W c (Proc.devRef .tc main_call0_v0_2) = m) (hb : W c (Proc.devRef .tc main_call0_v2) = b) :
    (Final.dat W c).arrAt 4 cfg2.N = outF x w m b := by
  refine (Final.dat W c).arrAt_eq_of_covers 4 _ (by decide +kernel) fun t _ y => ?_
  blk_simp
  rw [Final.after_4]
  refine (out_pt _ _ _ _ y).trans ?_
  unfold outF
  refine congrArg₂ (· + ·) (Finset.sum_congr rfl fun k _ => congrArg₂ (· * ·) (congrArg₂ (· - ·) ?_ ?_) ?_) ?_
  · rw [← hx]; blk_point [Final.iblk, idx2 t]
  · rw [← hm]; blk_point [Final.iblk, idx2 t]
  · rw [← hw]; blk_point [Final.iblk, idx2 t]
  · rw [← hb]; blk_point [Final.iblk, idx2 t]

end Cert.KernelIdeal.Val

end
-- ==== Proof.Value.KerVal.lean ====
/- What the three kernels leave in the result. -/
module

public import proofs.«01_k».proof.Proof.Value.StatsArr
public import proofs.«01_k».proof.Proof.Value.NsArr
public import proofs.«01_k».proof.Proof.Value.FinalArr
public import proofs.«01_k».proof.Proof.KernelIdeal.Run
public import Idealize.ShloMosaic.Lib.StableHlo.RunRead

@[expose] public section

set_option maxRecDepth 16384

noncomputable section

namespace Cert.KernelIdeal.Val

open Cert.Maths
open Idealize.ShloMosaic Idealize.ShloMosaic.TcCoe Idealize.SL.Sem
open Idealize.ShloMosaic.StableHlo
open Idealize.ShloMosaic.Pipeline (Dat)
open Cert.KernelIdeal Cert.KernelIdeal.Gen Cert.KernelIdeal.Whole

section Blocks

variable (W : (c : Dev nD) → (b : DevRef τ sig) → b.ty.Contents (Elt Ideal))

/-- The second kernel's block of the Gram matrix is all of it. -/
theorem ns_g (c : Dev nD) (t : Fin cfg1.N) (g : FVec Ideal S512x512 .f32) (h : W c (Proc.devRef .tc main_call0_v0_1) = g) : Ns.iblk W c 0 t = g := by
  funext j
  rw [← h]
  blk_point [Ns.iblk, idx1 t]

/-- The row of column sums it reads. -/
theorem ns_s (c : Dev nD) (t : Fin cfg1.N) (s : FVec Ideal S8x4096 .f32) (h : W c (Proc.devRef .tc main_call0_v0_3) = s) (a : Fin 512) :
    View.ld (Val := Elt Ideal) (e' := .f32) (show FVec Ideal S8x4096 .f32 from Ns.iblk W c 1 t) Ns.rS (ix2 0 a) = s (ix2 0 (col 0 a)) := by
  refine (View.ld_unit_apply_of (Val := Elt Ideal) (e := .f32) _ _ _ _ _ (ix2 0 (col 0 a)) fun i => by fin_cases i <;> simp [col]).trans ?_
  rw [← h]
  blk_point [Ns.iblk, idx1 t]

end Blocks

variable (m : (ℓ : Loc nD τ sig) → Buf (Elt Ideal) ℓ) (c : Dev nD)

/-- The bias as a row. -/
theorem bias_eq (b : FVec Ideal S4096 .f32) (h : m (c, Proc.devRef .tc main_arg2) = b) :
    W3 m c (Proc.devRef .tc main_call0_v2) = (fun j => b (ix1 (j 1)) : FVec Ideal S1x4096 .f32) := by
  have h2 : W2 m c (Proc.devRef .tc main_arg2) = b :=
    (W2_keeps m c main_arg2 (by decide)).trans ((W1_keeps m c main_arg2 (by decide)).trans h)
  unfold W3
  after_reads_simp
  rw [h2]
  funext j
  idx_vars j
  pointwise

/-- The whitening matrix. -/
theorem cC_val (x : FVec Ideal S8192x4096 .f32) (hx : m (c, Proc.devRef .tc main_arg0) = x) :
    Ns.cC (W1 m) c = up (isq (covK (Xof x))) := by
  obtain ⟨s, hs, hs'⟩ := cs_arr (W0 m) c x hx
  have hg : W1 m c (Proc.devRef .tc main_call0_v0_1) = up (Gram (Xof x)) := (W1_arr m c 2).trans (gram_arr (W0 m) c x hx)
  have hs : W1 m c (Proc.devRef .tc main_call0_v0_3) = s := (W1_arr m c 4).trans hs
  refine c_at (covK (Xof x)) (by rw [cov_eq]; exact fro_pos _) _ _ ?_
  exact cov_at (Gram (Xof x)) (Ssum (Xof x)) _ _ (ns_g (W1 m) c _ _ hg) fun a => (ns_s (W1 m) c _ s hs a).trans (hs' a)

/-- The result. -/
def outK (X : Fin 8192 → Fin 4096 → ℝ) (W : Fin 4096 → Fin 4096 → ℝ) (b : FVec Ideal S4096 .f32) : FVec Ideal S8192x4096 .f32 := fun j =>
  ((∑ k, (X (j 0) k - mu X (rb k)) * wh W (isq (covK X)) (j 1) k : ℝ) : EReal) + b (ix1 (j 1))

/-- One entry of the last kernel's closed form: a sum of real products. -/
theorem sum_real (X M : Fin 4096 → ℝ) (T : Fin 4096 → EReal) (w : Fin 4096 → Fin 4096 → ℝ) (C : RM) (o : Fin 4096)
    (hT : ∀ k, T k = ∑ a : Fin 512, (C a (rb k) : EReal) * ((w o (col (qb k) a) : ℝ) : EReal)) :
    (∑ k, ((X k : EReal) - (M k : EReal)) * T k) = ((∑ k, (X k - M k) * wh w C o k : ℝ) : EReal) := by
  have h : ∀ k, T k = ((wh w C o k : ℝ) : EReal) := fun k => by
    rw [hT]
    unfold wh
    rw [coe_sum]
    refine Finset.sum_congr rfl fun a _ => ?_
    rw [EReal.coe_mul, mul_comm]
  simp only [h, ← EReal.coe_mul, ← EReal.coe_sub, ← coe_sum]

/-- The last kernel's closed form at the arrays the first two leave. -/
theorem outF_at (X : Fin 8192 → Fin 4096 → ℝ) (M : Fin 512 → ℝ) (C : RM) (w : Fin 4096 → Fin 4096 → ℝ) (b : FVec Ideal S4096 .f32)
    (i : Fin 8192) (o : Fin 4096) :
    outF (fun j => ((X (j 0) (j 1) : ℝ) : EReal)) (wtF C (fun j => ((w (j 0) (j 1) : ℝ) : EReal))) (fun j => ((M (rb (j 1)) : ℝ) : EReal))
      (fun j => b (ix1 (j 1))) (ix2 i o) = ((∑ k, (X i k - M (rb k)) * wh w C o k : ℝ) : EReal) + b (ix1 o) :=
  congrArg (· + b (ix1 o)) (sum_real (X i) (fun k => M (rb k)) (fun k => wtF C (fun j => ((w (j 0) (j 1) : ℝ) : EReal)) (ix2 k o)) w C o fun _ => rfl)

theorem outF_eq (X : Fin 8192 → Fin 4096 → ℝ) (w : Fin 4096 → Fin 4096 → ℝ) (b : FVec Ideal S4096 .f32) :
    outF (fun j => ((X (j 0) (j 1) : ℝ) : EReal)) (wtF (isq (covK X)) (fun j => ((w (j 0) (j 1) : ℝ) : EReal))) (fun j => ((mu X (rb (j 1)) : ℝ) : EReal))
      (fun j => b (ix1 (j 1))) = outK X w b := by
  funext j
  idx_vars j
  exact outF_at X (mu X) (isq (covK X)) w b j0 j1

theorem out_val (x : FVec Ideal S8192x4096 .f32) (w : Fin 4096 → Fin 4096 → ℝ) (b : FVec Ideal S4096 .f32)
    (hx : m (c, Proc.devRef .tc main_arg0) = x)
    (hw : m (c, Proc.devRef .tc main_arg1) = (fun j => ((w (j 0) (j 1) : ℝ) : EReal) : FVec Ideal S4096x4096 .f32))
    (hb : m (c, Proc.devRef .tc main_arg2) = b) :
    W4 m c (Proc.devRef .tc main_v0) = outK (Xof x) w b := by
  have w1 : W1 m c (Proc.devRef .tc main_arg1) = (fun j => ((w (j 0) (j 1) : ℝ) : EReal) : FVec Ideal S4096x4096 .f32) :=
    (W1_keeps m c main_arg1 (by decide)).trans hw
  have x3 : W3 m c (Proc.devRef .tc main_call0_v0_0) = (fun j => ((Xof x (j 0) (j 1) : ℝ) : EReal) : FVec Ideal S8192x4096 .bf16) :=
    (W3_keeps m c main_call0_v0_0 (by decide)).trans ((W2_keeps m c main_call0_v0_0 (by decide)).trans ((W1_arr m c 1).trans (xn_arr (W0 m) c x hx)))
  have m3 : W3 m c (Proc.devRef .tc main_call0_v0_2) = (fun j => ((mu (Xof x) (rb (j 1)) : ℝ) : EReal) : FVec Ideal S1x4096 .bf16) :=
    (W3_keeps m c main_call0_v0_2 (by decide)).trans ((W2_keeps m c main_call0_v0_2 (by decide)).trans ((W1_arr m c 3).trans (mean_arr (W0 m) c x hx)))
  have t3 : W3 m c (Proc.devRef .tc main_call0_v1) = wtF (isq (covK (Xof x))) (fun j => ((w (j 0) (j 1) : ℝ) : EReal)) :=
    (W3_keeps m c main_call0_v1 (by decide)).trans ((W2_arr m c 3).trans (wt_arr (W1 m) c _ _ (cC_val m c x hx) w1))
  have b3 := bias_eq m c b hb
  have f := (W4_arr m c 4).trans (final_arr (W3 m) c _ _ _ _ x3 t3 m3 b3)
  exact f.trans (outF_eq (Xof x) w b)

end Cert.KernelIdeal.Val

end
-- ==== Proof.Value.RefVal.lean ====
/- What the reference's operations compute at exact arithmetic, stretch by stretch, entry by entry. -/
module

public import proofs.«01_k».proof.Proof.Value.Math
public import proofs.«01_k».proof.Proof.ReferenceIdeal.Run
public import Idealize.ShloMosaic.Lib.StableHlo.RunRead

@[expose] public section

set_option maxRecDepth 16384

noncomputable section

namespace Cert.ReferenceIdeal.Val

open Cert.Maths
open Idealize.ShloMosaic Idealize.ShloMosaic.TcCoe Idealize.ShloMosaic.StableHlo Idealize.SL.Sem
open Cert.ReferenceIdeal Cert.ReferenceIdeal.Gen Cert.ReferenceIdeal.Value

section Cut
variable {F : FTy → Type} [FloatOps F]

/-- The operations up to the normalised rows. -/
abbrev normOps : List (HloOp τ sig (Elt F)) :=
  [ StableHlo.unary main_v4 main_v5 (Host.sqrt : (⟨S8192x1, .f32⟩ : BufTy).Contents (Elt F) → (⟨S8192x1, .f32⟩ : BufTy).Contents (Elt F)),
    StableHlo.unary main_v3 main_v6 (broadcastInDim S8192x4096 ![0, 1] bcast_S8192x1_S8192x4096_0_1 : (⟨S8192x1, .f32⟩ : BufTy).Contents (Elt F) → (⟨S8192x4096, .f32⟩ : BufTy).Contents (Elt F)),
    StableHlo.binary main_arg0 main_v6 main_v7 (subf : (⟨S8192x4096, .f32⟩ : BufTy).Contents (Elt F) → (⟨S8192x4096, .f32⟩ : BufTy).Contents (Elt F) → (⟨S8192x4096, .f32⟩ : BufTy).Contents (Elt F)),
    StableHlo.nullary main_cst_1 (constant S_ .f32 0x3727C5AC#32),
    StableHlo.unary main_cst_1 main_v8 (broadcastInDim S8192x1 ![] bcast_S_S8192x1 : (⟨S_, .f32⟩ : BufTy).Contents (Elt F) → (⟨S8192x1, .f32⟩ : BufTy).Contents (Elt F)),
    StableHlo.binary main_v5 main_v8 main_v9 (addf : (⟨S8192x1, .f32⟩ : BufTy).Contents (Elt F) → (⟨S8192x1, .f32⟩ : BufTy).Contents (Elt F) → (⟨S8192x1, .f32⟩ : BufTy).Contents (Elt F)),
    StableHlo.unary main_v9 main_v10 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v7 main_v10 main_v11 (Host.divf : (⟨S8192x4096, .f32⟩ : BufTy).Contents (Elt F) → (⟨S8192x4096, .f32⟩ : BufTy).Contents (Elt F) → (⟨S8192x4096, .f32⟩ : BufTy).Contents (Elt F)) ]

/-- The operations from the normalised rows to the covariance. -/
abbrev covOps : List (HloOp τ sig (Elt F)) :=
  [ StableHlo.reshape main_v11 main_v12 (rfl : (.f32 : EltTy) = .f32) shapeCasts_S8192x4096_S65536x512,
    StableHlo.nullary main_cst_2 (constant S_ .f32 0x00000000#32),
    StableHlo.binary main_v12 main_cst_2 main_v13 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    StableHlo.nullary main_cst_3 (constant S_ .f32 0x47800000#32),
    StableHlo.unary main_cst_3 main_v14 (broadcastInDim S512 ![] bcast_S_S512 : (⟨S_, .f32⟩ : BufTy).Contents (Elt F) → (⟨S512, .f32⟩ : BufTy).Contents (Elt F)),
    StableHlo.binary main_v13 main_v14 main_v15 (Host.divf : (⟨S512, .f32⟩ : BufTy).Contents (Elt F) → (⟨S512, .f32⟩ : BufTy).Contents (Elt F) → (⟨S512, .f32⟩ : BufTy).Contents (Elt F)),
    StableHlo.unary main_v15 main_v16 (broadcastInDim S1x512 ![1] bcast_S512_S1x512_1 : (⟨S512, .f32⟩ : BufTy).Contents (Elt F) → (⟨S1x512, .f32⟩ : BufTy).Contents (Elt F)),
    StableHlo.unary main_v16 main_v17 (broadcastInDim S65536x512 ![0, 1] bcast_S1x512_S65536x512_0_1 : (⟨S1x512, .f32⟩ : BufTy).Contents (Elt F) → (⟨S65536x512, .f32⟩ : BufTy).Contents (Elt F)),
    StableHlo.binary main_v12 main_v17 main_v18 (subf : (⟨S65536x512, .f32⟩ : BufTy).Contents (Elt F) → (⟨S65536x512, .f32⟩ : BufTy).Contents (Elt F) → (⟨S65536x512, .f32⟩ : BufTy).Contents (Elt F)),
    StableHlo.nullary main_v19 (iotaInDim S512x512 32 0),
    StableHlo.nullary main_v20 (iotaInDim S512x512 32 1),
    StableHlo.nullary main_c_4 (constantI S_ 32 0#32),
    StableHlo.unary main_c_4 main_v21 (broadcastInDim S512x512 ![] bcast_S_S512x512 : (⟨S_, .i32⟩ : BufTy).Contents (Elt F) → (⟨S512x512, .i32⟩ : BufTy).Contents (Elt F)),
    StableHlo.binary main_v19 main_v21 main_v22 (addi : (⟨S512x512, .i32⟩ : BufTy).Contents (Elt F) → (⟨S512x512, .i32⟩ : BufTy).Contents (Elt F) → (⟨S512x512, .i32⟩ : BufTy).Contents (Elt F)),
    StableHlo.binary main_v22 main_v20 main_v23 (cmpi .eq : (⟨S512x512, .i32⟩ : BufTy).Contents (Elt F) → (⟨S512x512, .i32⟩ : BufTy).Contents (Elt F) → (⟨S512x512, .i1⟩ : BufTy).Contents (Elt F)),
    StableHlo.unary main_v23 main_v24 (uitofp .f32 : (⟨S512x512, .i1⟩ : BufTy).Contents (Elt F) → (⟨S512x512, .f32⟩ : BufTy).Contents (Elt F)),
    StableHlo.nullary main_cst_5 (constant S_ .f32 0x3727C5AC#32),
    StableHlo.unary main_cst_5 main_v25 (broadcastInDim S512x512 ![] bcast_S_S512x512 : (⟨S_, .f32⟩ : BufTy).Contents (Elt F) → (⟨S512x512, .f32⟩ : BufTy).Contents (Elt F)),
    StableHlo.binary main_v25 main_v24 main_v26 (mulf : (⟨S512x512, .f32⟩ : BufTy).Contents (Elt F) → (⟨S512x512, .f32⟩ : BufTy).Contents (Elt F) → (⟨S512x512, .f32⟩ : BufTy).Contents (Elt F)),
    StableHlo.unary main_v18 main_v27 ((transpose S512x65536 [1, 0] · transposes_S65536x512_S512x65536_1_0) : (⟨S65536x512, .f32⟩ : BufTy).Contents (Elt F) → (⟨S512x65536, .f32⟩ : BufTy).Contents (Elt F)),
    StableHlo.binary main_v27 main_v18 main_v28 ((fun l r => Host.dotGeneral dot_S512x65536_S65536x512_S512x512_1_0_0_1_n_n none l r) : (⟨S512x65536, .f32⟩ : BufTy).Contents (Elt F) → (⟨S65536x512, .f32⟩ : BufTy).Contents (Elt F) → (⟨S512x512, .f32⟩ : BufTy).Contents (Elt F)),
    StableHlo.nullary main_cst_6 (constant S_ .f32 0x47800000#32),
    StableHlo.unary main_cst_6 main_v29 (broadcastInDim S512x512 ![] bcast_S_S512x512 : (⟨S_, .f32⟩ : BufTy).Contents (Elt F) → (⟨S512x512, .f32⟩ : BufTy).Contents (Elt F)),
    StableHlo.binary main_v28 main_v29 main_v30 (Host.divf : (⟨S512x512, .f32⟩ : BufTy).Contents (Elt F) → (⟨S512x512, .f32⟩ : BufTy).Contents (Elt F) → (⟨S512x512, .f32⟩ : BufTy).Contents (Elt F)),
    StableHlo.binary main_v26 main_v30 main_v31 (addf : (⟨S512x512, .f32⟩ : BufTy).Contents (Elt F) → (⟨S512x512, .f32⟩ : BufTy).Contents (Elt F) → (⟨S512x512, .f32⟩ : BufTy).Contents (Elt F)) ]

theorem ops2_cut : (hostOps0_2 : List (HloOp τ sig (Elt F))) = normOps ++ covOps := rfl

end Cut

/-- The rows' means. -/
def meanV (x : FVec Ideal S8192x4096 .f32) : FVec Ideal S8192x1 .f32 := fun j => Ideal.div (∑ l, x (ix2 (j 0) l)) ((4096 : ℝ) : EReal)
/-- The rows' variances. -/
def varV (x : FVec Ideal S8192x4096 .f32) : FVec Ideal S8192x1 .f32 := fun j =>
  (∑ l, cen (fun k => x (ix2 (j 0) k)) l * cen (fun k => x (ix2 (j 0) k)) l) * ((4095⁻¹ : ℝ) : EReal)
/-- The normalised rows. -/
def xnV (x : FVec Ideal S8192x4096 .f32) : FVec Ideal S8192x4096 .f32 := fun j => ln (fun k => x (ix2 (j 0) k)) (j 1)
theorem meanV_at (x : FVec Ideal S8192x4096 .f32) (i : Fin 8192) (j : Fin 1) : meanV x (ix2 i j) = Ideal.div (∑ l, x (ix2 i l)) ((4096 : ℝ) : EReal) := rfl
theorem varV_at (x : FVec Ideal S8192x4096 .f32) (i : Fin 8192) (j : Fin 1) : varV x (ix2 i j) =
  (∑ l, cen (fun k => x (ix2 i k)) l * cen (fun k => x (ix2 i k)) l) * ((4095⁻¹ : ℝ) : EReal) := rfl
theorem xnV_at (x : FVec Ideal S8192x4096 .f32) (i : Fin 8192) (j : Fin 4096) : xnV x (ix2 i j) = ln (fun k => x (ix2 i k)) j := rfl

variable (V : Valuation τ sig (Elt Ideal))

/-- A truth value as a number. -/
theorem uitofp_bit (b : BitVec 1) : (FloatOps.uitofp (F := Ideal) .f32 b : Ideal .f32) = ((b.toNat : ℝ) : EReal) := rfl

/-- The unit matrix as the comparison of two counters. -/
theorem eye_bit (a b : Fin 512) : (FloatOps.uitofp (F := Ideal) FTy.f32
      (IntOp.cmpi CmpIPredicate.eq (IntOp.addi (BitVec.ofNat 32 a.val) 0#32) (BitVec.ofNat 32 b.val)) : Ideal .f32) = ((eyeM a b : ℝ) : EReal) := by
  rw [uitofp_bit]
  unfold eyeM
  by_cases h : a = b
  · subst h
    simp [IntOp.cmpi, IntOp.addi]
  · have hn : ¬ BitVec.ofNat 32 a.val = BitVec.ofNat 32 b.val := by
      intro e
      apply h
      have e' := congrArg BitVec.toNat e
      simp only [BitVec.toNat_ofNat] at e'
      have h0 := a.isLt
      have h1 := b.isLt
      ext
      omega
    have hb : (BitVec.ofNat 32 a.val == BitVec.ofNat 32 b.val) = false := beq_false_of_ne hn
    simp [IntOp.cmpi, IntOp.addi, h, hb]

/-- The first stretch leaves the means. -/
theorem mean_eq (x : FVec Ideal S8192x4096 .f32) (hx : V (Proc.devRef .tc main_arg0) = x) :
    after hostOps0 V (Proc.devRef .tc main_v3) = meanV x := by
  after_reads_simp
  rw [hx]
  funext j
  idx_vars j
  pointwise [meanV_at, c_4096]

/-- The first stretch leaves the integer one. -/
theorem one_eq : after hostOps0 V (Proc.devRef .tc main_c) = (constantI S_ 32 1#32 : IVec S_ 32) := by
  after_reads_simp

/-- The second stretch leaves the variances. -/
theorem var_eq (x : FVec Ideal S8192x4096 .f32) (hx : V (Proc.devRef .tc main_arg0) = x)
    (h1 : V (Proc.devRef .tc main_c) = (constantI S_ 32 1#32 : IVec S_ 32)) :
    after hostOps0_1 V (Proc.devRef .tc main_v4) = varV x := by
  after_reads_simp
  rw [hx, h1]
  simp only [TRef.toBuf, TRef.ofBuf, cast_eq, id_eq]
  funext j
  idx_vars j
  pointwise [varV_at, cen, c_4096]
  have h : ((4096 : ℝ) : EReal) - (FloatOps.sitofp (F := Ideal) FTy.f32 1#32 : Ideal .f32) = ((4095 : ℝ) : EReal) := by
    show ((4096 : ℝ) : EReal) - (((1#32 : BitVec 32).toInt : ℝ) : EReal) = _
    rw [← EReal.coe_sub]
    norm_num
  rw [h, if_pos (by exact_mod_cast (by norm_num : (0 : ℝ) < 4095)), Ideal.div_coe (by norm_num), one_div]

/-- The third stretch's first part leaves the normalised rows. -/
theorem xn_eq (x : FVec Ideal S8192x4096 .f32) (hx : V (Proc.devRef .tc main_arg0) = x)
    (hm : V (Proc.devRef .tc main_v3) = meanV x) (hv : V (Proc.devRef .tc main_v4) = varV x) :
    after normOps V (Proc.devRef .tc main_v11) = xnV x := by
  after_reads_simp
  rw [hx, hm, hv]
  funext j
  idx_vars j
  pointwise [varV_at, meanV_at, xnV_at, cen, ln, c_4096, c_eps]

/-- Real arrays as arrays of extended reals. -/
def up (A : RM) : FVec Ideal S512x512 .f32 := fun j => ((A (j 0) (j 1) : ℝ) : EReal)
theorem up_at (A : RM) (a b : Fin 512) : up A (ix2 a b) = ((A a b : ℝ) : EReal) := rfl
def upX (X : Fin 8192 → Fin 4096 → ℝ) : FVec Ideal S8192x4096 .f32 := fun j => ((X (j 0) (j 1) : ℝ) : EReal)
theorem upX_at (X : Fin 8192 → Fin 4096 → ℝ) (a : Fin 8192) (b : Fin 4096) : upX X (ix2 a b) = ((X a b : ℝ) : EReal) := rfl
def upW (X : Fin 4096 → Fin 4096 → ℝ) : FVec Ideal S4096x4096 .f32 := fun j => ((X (j 0) (j 1) : ℝ) : EReal)
theorem upW_at (X : Fin 4096 → Fin 4096 → ℝ) (a : Fin 4096) (b : Fin 4096) : upW X (ix2 a b) = ((X a b : ℝ) : EReal) := rfl
def upv (v : Fin 512 → ℝ) : FVec Ideal S512 .f32 := fun j => ((v (j 0) : ℝ) : EReal)
theorem upv_at (v : Fin 512 → ℝ) (a : Fin 512) : upv v (ix1 a) = ((v a : ℝ) : EReal) := rfl

/-- The mean of the cut rows. -/
theorem mu_scalar (X : Fin 8192 → Fin 4096 → ℝ) (a : Fin 512) :
    Ideal.div (∑ n : Fin 65536, ((X ⟨n.val / 8, by omega⟩ ⟨n.val % 8 * 512 + a.val, by omega⟩ : ℝ) : EReal)) ((65536 : ℝ) : EReal)
      = ((mu X a : ℝ) : EReal) := by
  rw [← coe_sum, Ideal.div_coe (by norm_num), ← EReal.coe_mul]
  exact congrArg (fun s : ℝ => ((s * (1 / 65536) : ℝ) : EReal)) (sum_rows fun i j => X i (col j a))

/-- The covariance's sum of products. -/
theorem cov_scalar (X : Fin 8192 → Fin 4096 → ℝ) (p q : ℝ) (a b : Fin 512) :
    Ideal.div (∑ n : Fin 65536, (((X ⟨n.val / 8, by omega⟩ ⟨n.val % 8 * 512 + a.val, by omega⟩ : ℝ) : EReal) - (p : EReal))
        * (((X ⟨n.val / 8, by omega⟩ ⟨n.val % 8 * 512 + b.val, by omega⟩ : ℝ) : EReal) - (q : EReal))) ((65536 : ℝ) : EReal)
      = (((∑ i, ∑ j, (X i (col j a) - p) * (X i (col j b) - q)) * (1 / 65536) : ℝ) : EReal) := by
  simp only [← EReal.coe_sub, ← EReal.coe_mul]
  rw [← coe_sum, Ideal.div_coe (by norm_num), ← EReal.coe_mul]
  exact congrArg (fun s : ℝ => ((s * (1 / 65536) : ℝ) : EReal)) (sum_rows fun i j => (X i (col j a) - p) * (X i (col j b) - q))

/-- The mean of the cut rows, as the reference forms it. -/
theorem mu_eq (X : Fin 8192 → Fin 4096 → ℝ) (hx : V (Proc.devRef .tc main_v11) = upX X) :
    after covOps V (Proc.devRef .tc main_v15) = upv (mu X) := by
  after_reads_simp
  rw [hx]
  funext j
  idx_vars j
  pointwise [upv_at, upX_at, c_65536]
  exact mu_scalar X j0

/-- The covariance, as the reference forms it. -/
theorem cov_eq (X : Fin 8192 → Fin 4096 → ℝ) (hx : V (Proc.devRef .tc main_v11) = upX X) :
    after covOps V (Proc.devRef .tc main_v31) = up (covR X) := by
  after_reads_simp
  rw [hx]
  funext j
  idx_vars j
  pointwise [up_at, upX_at, c_65536, c_eps]
  rw [eye_bit, mu_scalar, mu_scalar, cov_scalar, ← EReal.coe_mul, ← EReal.coe_add]
  rfl

/-- The square root of the sum of an array's entries. -/
theorem sqrt_sum (v : FVec Ideal S512x512 .f32) : (Host.sqrt (Host.reduceAdd v (constant S_ .f32 0x00000000#32) reducesTo_S512x512_S_d0_1 h_S_) : FVec Ideal S_ .f32)
    = fun _ => Ideal.sqrt (∑ a : Fin 512, ∑ b : Fin 512, v (ix2 a b)) := by
  funext j
  pointwise []

theorem fro_scalar (C : RM) : Ideal.sqrt (∑ x, ∑ y, ((C x y : ℝ) : EReal) * ((C x y : ℝ) : EReal)) = ((fro C : ℝ) : EReal) := by
  have e : (∑ x, ∑ y, ((C x y : ℝ) : EReal) * ((C x y : ℝ) : EReal)) = ((∑ x, ∑ y, C x y * C x y : ℝ) : EReal) := by
    simp only [coe_sum, EReal.coe_mul]
  rw [e, Ideal.sqrt_coe, if_neg (not_lt.mpr (Finset.sum_nonneg fun a _ => Finset.sum_nonneg fun b _ => mul_self_nonneg _))]
  rfl

theorem sq_at (C : RM) (a b : Fin 512) : mulf (up C) (up C) (ix2 a b) = ((C a b : ℝ) : EReal) * ((C a b : ℝ) : EReal) := by
  pointwise [up_at]

/-- The norm's operations, on any matrix. -/
theorem norm_read (v : FVec Ideal S512x512 .f32) (hx : V (Proc.devRef .tc main_v31) = v) :
    after hostOps0_3 V (Proc.devRef .tc main_v32) = (Host.sqrt (Host.reduceAdd (mulf v v) (constant S_ .f32 0x00000000#32) reducesTo_S512x512_S_d0_1 h_S_) : FVec Ideal S_ .f32) := by
  after_reads_simp
  rw [hx]
  simp only [TRef.toBuf, TRef.ofBuf, cast_eq, id_eq]

/-- The norm of the covariance. -/
theorem norm_eq (C : RM) (hx : V (Proc.devRef .tc main_v31) = up C) :
    after hostOps0_3 V (Proc.devRef .tc main_v32) = (fun _ => ((fro C : ℝ) : EReal) : FVec Ideal S_ .f32) := by
  rw [norm_read V (up C) hx, sqrt_sum]
  simp only [sq_at, fro_scalar]

/-- The normalised covariance. -/
theorem y0_eq (C : RM) (hC : 0 < fro C) (hx : V (Proc.devRef .tc main_v31) = up C)
    (hn : V (Proc.devRef .tc main_v32) = (fun _ => ((fro C : ℝ) : EReal) : FVec Ideal S_ .f32)) :
    after hostOps0_4 V (Proc.devRef .tc main_v41_2) = up (fun a b => C a b * (1 / fro C)) := by
  after_reads_simp
  rw [hx, hn]
  simp only [id_eq]
  funext j
  idx_vars j
  pointwise [up_at]
  rw [Ideal.div_coe hC.ne', ← EReal.coe_mul]

/-- The unit matrix, in the two buffers the loop starts from. -/
theorem eye0_eq : after hostOps0_4 V (Proc.devRef .tc main_v41_0) = up eyeM := by
  after_reads_simp
  simp only [id_eq]
  funext j
  idx_vars j
  pointwise [up_at]
  exact eye_bit j0 j1
theorem eye3_eq : after hostOps0_4 V (Proc.devRef .tc main_v41_3) = up eyeM := by
  after_reads_simp
  simp only [id_eq]
  funext j
  idx_vars j
  pointwise [up_at]
  exact eye_bit j0 j1

/-- The matrix product, of real matrices. -/
theorem mm_up (A B : RM) :
    Host.dotGeneral dot_S512x512_S512x512_S512x512_1_0_0_1_n_n none (up A) (up B) = (up (mulM A B) : FVec Ideal S512x512 .f32) := by
  funext j
  idx_vars j
  pointwise [up_at, mulM, coe_sum, EReal.coe_mul]

/-- A trip's factor, of real matrices. -/
theorem t_eq (p : RM × RM) (h0 : V (Proc.devRef .tc main_v41_0) = up eyeM) (h2 : V (Proc.devRef .tc main_v41_2) = up p.1)
    (h3 : V (Proc.devRef .tc main_v41_3) = up p.2) : res_main_while0b_v62 V = up (stepT p) := by
  unfold res_main_while0b_v62
  rw [h0, h2, h3, mm_up]
  funext j
  idx_vars j
  pointwise [up_at, c_half, c_three_halves, EReal.coe_mul, EReal.coe_sub, stepT]

/-- The whitened weight from the loop's result. -/
theorem isq_scalar (C Z : RM) (hC : 0 < fro C) (a b : Fin 512) :
    Ideal.div ((Z a b : ℝ) : EReal) (Ideal.sqrt ((fro C : ℝ) : EReal)) = ((Z a b * (1 / Real.sqrt (fro C)) : ℝ) : EReal) := by
  rw [Ideal.sqrt_coe, if_neg (not_lt.mpr hC.le), Ideal.div_coe (Real.sqrt_pos.mpr hC).ne', ← EReal.coe_mul]

/-- The result, over the rows, the weight, the mean and the loop's result. -/
def outV (X : Fin 8192 → Fin 4096 → ℝ) (W : Fin 4096 → Fin 4096 → ℝ) (Q : RM) (b : FVec Ideal S4096 .f32) : FVec Ideal S8192x4096 .f32 := fun j =>
  ((∑ k, X (j 0) k * wh W Q (j 1) k : ℝ) : EReal)
    + (b (ix1 (j 1)) - ((∑ g : Fin 8, ∑ c : Fin 512, wh W Q (j 1) (col g c) * mu X c : ℝ) : EReal))
theorem outV_at (X : Fin 8192 → Fin 4096 → ℝ) (W : Fin 4096 → Fin 4096 → ℝ) (Q : RM) (b : FVec Ideal S4096 .f32) (i : Fin 8192) (o : Fin 4096) :
    outV X W Q b (ix2 i o) = ((∑ k, X i k * wh W Q o k : ℝ) : EReal)
      + (b (ix1 o) - ((∑ g : Fin 8, ∑ c : Fin 512, wh W Q o (col g c) * mu X c : ℝ) : EReal)) := rfl

/-- Row `o` of the weight, cut in eight, read at the piece that holds a column. -/
theorem w_cut (W : Fin 4096 → Fin 4096 → ℝ) (o k : Fin 4096) (a : Fin 512) (h h') :
    W ⟨(o.val * 8 + k.val / 512) / 8, h⟩ ⟨(o.val * 8 + k.val / 512) % 8 * 512 + a.val, h'⟩ = W o (col (qb k) a) := by
  have hk := k.isLt
  congr 1
  · ext; simp only []; omega
  · ext; simp only [col, qb]; omega
theorem w_cut' (W : Fin 4096 → Fin 4096 → ℝ) (o : Fin 4096) (g : Fin 8) (a : Fin 512) (h h') :
    W ⟨(o.val * 8 + g.val) / 8, h⟩ ⟨(o.val * 8 + g.val) % 8 * 512 + a.val, h'⟩ = W o (col g a) := by
  have hk := g.isLt
  congr 1
  · ext; simp only []; omega
  · ext; simp only [col]; omega

/-- The last stretch: the result, entry by entry. -/
theorem out_eq (X : Fin 8192 → Fin 4096 → ℝ) (W : Fin 4096 → Fin 4096 → ℝ) (C Z : RM) (hC : 0 < fro C) (b : FVec Ideal S4096 .f32)
    (h1 : V (Proc.devRef .tc main_arg1) = upW W) (h2 : V (Proc.devRef .tc main_arg2) = b)
    (hx : V (Proc.devRef .tc main_v11) = upX X) (hm : V (Proc.devRef .tc main_v15) = upv (mu X))
    (hn : V (Proc.devRef .tc main_v32) = (fun _ => ((fro C : ℝ) : EReal) : FVec Ideal S_ .f32))
    (hz : V (Proc.devRef .tc main_v41_3) = up Z) :
    after hostOps0_5 V (Proc.devRef .tc main_v56) = outV X W (fun a c => Z a c * (1 / Real.sqrt (fro C))) b := by
  after_reads_simp
  rw [hx, hn, hm, h1, h2, hz]
  funext j
  idx_vars j
  pointwise [up_at, upX_at, upv_at, upW_at, outV_at]
  simp only [isq_scalar C Z hC, w_cut, w_cut', wh, coe_sum, EReal.coe_mul, qb_col, rb_col]
  rfl

end Cert.ReferenceIdeal.Val

end
-- ==== Proof.Value.RefWhole.lean ====
/- What the reference leaves in its result. -/
module

public import proofs.«01_k».proof.Proof.Value.RefVal
public import proofs.«01_k».proof.Proof.ReferenceIdeal.Run

@[expose] public section

set_option maxRecDepth 16384

noncomputable section

namespace Cert.ReferenceIdeal.Val

open Cert.Maths
open Idealize.ShloMosaic Idealize.ShloMosaic.TcCoe Idealize.ShloMosaic.StableHlo
open Idealize.SL.Sem
open Cert.ReferenceIdeal.Gen Cert.ReferenceIdeal.Value Cert.ReferenceIdeal.Whole

variable (m : (ℓ : Loc nD τ sig) → Buf (Elt Ideal) ℓ) (c : Dev nD)

/-- The normalised rows of the argument. -/
def Xof (x : FVec Ideal S8192x4096 .f32) : Fin 8192 → Fin 4096 → ℝ := fun i k => lnr (fun l => x (ix2 i l)) k

theorem xnV_eq (x : FVec Ideal S8192x4096 .f32) : xnV x = upX (Xof x) := funext fun j => lnr_spec _ _

/-! ## Before the loop -/

/-- What the buffers hold after each stretch before the loop. -/
def V1 : Valuation τ sig (Elt Ideal) := after hostOps0 (launchContents m c)
def V2 : Valuation τ sig (Elt Ideal) := after hostOps0_1 (V1 m c)
def V3 : Valuation τ sig (Elt Ideal) := after normOps (V2 m c)
def V4 : Valuation τ sig (Elt Ideal) := after covOps (V3 m c)
def V5 : Valuation τ sig (Elt Ideal) := after hostOps0_3 (V4 m c)
def V6 : Valuation τ sig (Elt Ideal) := after hostOps0_4 (V5 m c)

theorem V4_eq : V4 m c = after hostOps0_2 (V2 m c) := by
  unfold V4 V3
  rw [ops2_cut, after_append]

theorem entry_eq : entryContents preI m c = V6 m c := by
  unfold V6 V5
  rw [V4_eq]
  rfl

/-- The buffers that the operations from the normalised rows to the covariance write. -/
abbrev covRefs : List (Ref sig .tc) :=
  [main_v12, main_cst_2, main_v13, main_cst_3, main_v14, main_v15, main_v16, main_v17, main_v18, main_v19, main_v20, main_c_4, main_v21, main_v22,
    main_v23, main_v24, main_cst_5, main_v25, main_v26, main_v27, main_v28, main_cst_6, main_v29, main_v30, main_v31]

theorem cov_writes : (covOps : List (HloOp τ sig (Elt Ideal))).Forall fun op => op.writes ⊆ (covRefs.map (Proc.devRef (τ := τ) .tc)).toFinset :=
  forall_writes_sub_of_map rfl

section Entry

variable (x : FVec Ideal S8192x4096 .f32) (hx : m (c, Proc.devRef .tc main_arg0) = x)
include hx

theorem V1_arg0 : V1 m c (Proc.devRef .tc main_arg0) = x := (after_of_writes_sub _ _ hostOps0_writes (by decide)).trans hx
theorem V1_mean : V1 m c (Proc.devRef .tc main_v3) = meanV x := mean_eq (launchContents m c) x hx
theorem V2_arg0 : V2 m c (Proc.devRef .tc main_arg0) = x := (after_of_writes_sub _ _ hostOps0_1_writes (by decide)).trans (V1_arg0 m c x hx)
theorem V2_mean : V2 m c (Proc.devRef .tc main_v3) = meanV x := (after_of_writes_sub _ _ hostOps0_1_writes (by decide)).trans (V1_mean m c x hx)
theorem V2_var : V2 m c (Proc.devRef .tc main_v4) = varV x := var_eq (V1 m c) x (V1_arg0 m c x hx) (one_eq (launchContents m c))
theorem V3_xn : V3 m c (Proc.devRef .tc main_v11) = upX (Xof x) :=
  (xn_eq (V2 m c) x (V2_arg0 m c x hx) (V2_mean m c x hx) (V2_var m c x hx)).trans (xnV_eq x)
theorem V4_xn : V4 m c (Proc.devRef .tc main_v11) = upX (Xof x) := (after_of_writes_sub _ _ cov_writes (by decide)).trans (V3_xn m c x hx)
theorem V4_mu : V4 m c (Proc.devRef .tc main_v15) = upv (mu (Xof x)) := mu_eq (V3 m c) (Xof x) (V3_xn m c x hx)
theorem V4_cov : V4 m c (Proc.devRef .tc main_v31) = up (covR (Xof x)) := cov_eq (V3 m c) (Xof x) (V3_xn m c x hx)
theorem V5_cov : V5 m c (Proc.devRef .tc main_v31) = up (covR (Xof x)) := (after_of_writes_sub _ _ hostOps0_3_writes (by decide)).trans (V4_cov m c x hx)
theorem V5_norm : V5 m c (Proc.devRef .tc main_v32) = (fun _ => ((fro (covR (Xof x)) : ℝ) : EReal) : FVec Ideal S_ .f32) :=
  norm_eq (V4 m c) _ (V4_cov m c x hx)
theorem V6_xn : V6 m c (Proc.devRef .tc main_v11) = upX (Xof x) :=
  (after_of_writes_sub _ _ hostOps0_4_writes (by decide)).trans ((after_of_writes_sub _ _ hostOps0_3_writes (by decide)).trans (V4_xn m c x hx))
theorem V6_mu : V6 m c (Proc.devRef .tc main_v15) = upv (mu (Xof x)) :=
  (after_of_writes_sub _ _ hostOps0_4_writes (by decide)).trans ((after_of_writes_sub _ _ hostOps0_3_writes (by decide)).trans (V4_mu m c x hx))
theorem V6_norm : V6 m c (Proc.devRef .tc main_v32) = (fun _ => ((fro (covR (Xof x)) : ℝ) : EReal) : FVec Ideal S_ .f32) :=
  (after_of_writes_sub _ _ hostOps0_4_writes (by decide)).trans (V5_norm m c x hx)
theorem V6_y0 : V6 m c (Proc.devRef .tc main_v41_2) = up (fun a b => covR (Xof x) a b * (1 / fro (covR (Xof x)))) :=
  y0_eq (V5 m c) _ (fro_pos (Xof x)) (V5_cov m c x hx) (V5_norm m c x hx)

/-! ## The loop -/

/-- Before trip `k` the loop's two matrices are the pair after `k` Newton-Schulz steps. -/
theorem loop_eq (k : ℕ) :
    atK m k c (Proc.devRef .tc main_v41_0) = up eyeM
    ∧ atK m k c (Proc.devRef .tc main_v41_2) = up (ns (fun a b => covR (Xof x) a b * (1 / fro (covR (Xof x)))) k).1
    ∧ atK m k c (Proc.devRef .tc main_v41_3) = up (ns (fun a b => covR (Xof x) a b * (1 / fro (covR (Xof x)))) k).2 := by
  induction k with
  | zero =>
    refine ⟨?_, ?_, ?_⟩
    · exact (congrFun (entry_eq m c) _).trans (eye0_eq (V5 m c))
    · exact (congrFun (entry_eq m c) _).trans (V6_y0 m c x hx)
    · exact (congrFun (entry_eq m c) _).trans (eye3_eq (V5 m c))
  | succ k ih =>
    obtain ⟨i0, i2, i3⟩ := ih
    have j0 := (after_of_writes_sub condOps (atK m k c) condOps_writes (r := main_v41_0) (by decide)).trans i0
    have j2 := (after_of_writes_sub condOps (atK m k c) condOps_writes (r := main_v41_2) (by decide)).trans i2
    have j3 := (after_of_writes_sub condOps (atK m k c) condOps_writes (r := main_v41_3) (by decide)).trans i3
    have jt := t_eq (after condOps (atK m k c)) (ns _ k) j0 j2 j3
    refine ⟨?_, ?_, ?_⟩
    · exact (trip_main_v41_0 (after condOps (atK m k c))).trans j0
    · refine (trip_main_v41_2 (after condOps (atK m k c))).trans ?_
      rw [j2, jt]
      exact mm_up _ _
    · refine (trip_main_v41_3 (after condOps (atK m k c))).trans ?_
      rw [j3, jt]
      exact mm_up _ _

/-- The result. -/
theorem out_val (w : Fin 4096 → Fin 4096 → ℝ) (b : FVec Ideal S4096 .f32) (hw : m (c, Proc.devRef .tc main_arg1) = upW w)
    (hb : m (c, Proc.devRef .tc main_arg2) = b) :
    finalContents condOps preI bodyI postI 5 m c (Proc.devRef .tc main_v56) = outV (Xof x) w (isq (covR (Xof x))) b := by
  show after hostOps0_5 (after condOps (atK m 5 c)) (Proc.devRef .tc main_v56) = _
  have keep : ∀ r : Ref sig .tc, r ∉ condOps_W → r ∉ while0Ops0_W → after condOps (atK m 5 c) (Proc.devRef .tc r) = V6 m c (Proc.devRef .tc r) :=
    fun r hc hb' => (after_of_writes_sub _ _ condOps_writes hc).trans ((atK_keep m c r hc hb' 5).trans (congrFun (entry_eq m c) _))
  have arg : ∀ r : Ref sig .tc, r ∉ hostOps0_W → r ∉ hostOps0_1_W → r ∉ hostOps0_2_W → r ∉ hostOps0_3_W → r ∉ hostOps0_4_W →
      V6 m c (Proc.devRef .tc r) = m (c, Proc.devRef .tc r) := fun r h0 h1 h2 h3 h4 => by
    unfold V6 V5
    rw [after_of_writes_sub _ _ hostOps0_4_writes h4, after_of_writes_sub _ _ hostOps0_3_writes h3, V4_eq, after_of_writes_sub _ _ hostOps0_2_writes h2]
    unfold V2 V1
    rw [after_of_writes_sub _ _ hostOps0_1_writes h1, after_of_writes_sub _ _ hostOps0_writes h0]
  refine out_eq _ (Xof x) w (covR (Xof x)) _ (fro_pos _) b ?_ ?_ ?_ ?_ ?_ ?_
  · exact (keep main_arg1 (by decide) (by decide)).trans ((arg main_arg1 (by decide) (by decide) (by decide) (by decide) (by decide)).trans hw)
  · exact (keep main_arg2 (by decide) (by decide)).trans ((arg main_arg2 (by decide) (by decide) (by decide) (by decide) (by decide)).trans hb)
  · exact (keep main_v11 (by decide) (by decide)).trans (V6_xn m c x hx)
  · exact (keep main_v15 (by decide) (by decide)).trans (V6_mu m c x hx)
  · exact (keep main_v32 (by decide) (by decide)).trans (V6_norm m c x hx)
  · exact (after_of_writes_sub condOps (atK m 5 c) condOps_writes (r := main_v41_3) (by decide)).trans (loop_eq m c x hx 5).2.2

end Entry

end Cert.ReferenceIdeal.Val

end
-- ==== Proof.Value.Algebraic.lean ====
/- The idealized kernel and the idealized reference leave equal results wherever the weight is finite. -/
module

public import proofs.«01_k».proof.Defs
public import proofs.«01_k».proof.Proof.Frames
public import proofs.«01_k».proof.Proof.Value.KerVal
public import proofs.«01_k».proof.Proof.Value.RefWhole

@[expose] public section

set_option maxRecDepth 16384

noncomputable section

namespace Cert.Proof

open Idealize.ShloMosaic Idealize.ShloMosaic.TcCoe Idealize.ShloMosaic.StableHlo Idealize.SL.Sem
open Cert.Maths

/-- The precondition's side condition. -/
theorem preFacts : Cert.Pre_weight_finite.Facts := ⟨by decide⟩

/-- A weight that the precondition admits is a matrix of real numbers. -/
theorem weight_real [Cert.Pre_weight_finite.Facts] (x : FVec Ideal Cert.Pre_weight_finite.S8192x4096 .f32) (w : FVec Ideal Cert.Pre_weight_finite.S4096x4096 .f32)
    (b : FVec Ideal Cert.Pre_weight_finite.S4096 .f32) (h : Cert.Pre_weight_finite.fn (F := Ideal) x w b = fun _ => 1#1) (i j : Fin 4096) :
    w (ix2 i j) = (((w (ix2 i j)).toReal : ℝ) : EReal) := by
  have h' := congrFun h (ix2 i j)
  revert h'
  pointwise [Cert.Pre_weight_finite.fn, c_top]
  intro h'
  generalize w (ix2 i j) = v at h' ⊢
  have hlt : max (v : EReal) (-v) < ⊤ := by
    by_contra hn
    have hn' : ¬ ((FloatOps.absf (F := Ideal) (φ := .f32) v : EReal) < ⊤) := hn
    simp [hn'] at h'
  have ht : (v : EReal) ≠ ⊤ := fun e => by simp [e] at hlt
  have hb : (v : EReal) ≠ ⊥ := fun e => by simp [e] at hlt
  exact (EReal.coe_toReal ht hb).symm

/-- The kernel's result and the reference's are the same function of the arguments. -/
theorem out_same (X : Fin 8192 → Fin 4096 → ℝ) (W : Fin 4096 → Fin 4096 → ℝ) (b : FVec Ideal Cert.KernelIdeal.S4096 .f32) :
    Cert.KernelIdeal.Val.outK X W b = Cert.ReferenceIdeal.Val.outV X W (isq (covR X)) b := by
  funext j
  unfold Cert.KernelIdeal.Val.outK Cert.ReferenceIdeal.Val.outV
  rw [cov_eq]
  exact last_eq (X (j 0)) (mu X) W (isq (covR X)) (j 1) (b (ix1 (j 1)))

theorem algebraic : Cert.algebraic_KernelIdeal_ReferenceIdeal_pre_weight_finite (hKernelIdeal := Cert.KernelIdeal.Gen.facts)
    (hReferenceIdeal := Cert.ReferenceIdeal.Gen.facts) (hPre_weight_finite := preFacts) := by
  intro m g m' g' hp ha
  haveI := preFacts
  have hw : ∀ c : Dev Cert.KernelIdeal.nD, m (c, Proc.devRef .tc Cert.KernelIdeal.main_arg1)
      = (fun j => ((((m (c, Proc.devRef .tc Cert.KernelIdeal.main_arg1) : FVec Ideal Cert.KernelIdeal.S4096x4096 .f32) (ix2 (j 0) (j 1))).toReal : ℝ) : EReal)
          : FVec Ideal Cert.KernelIdeal.S4096x4096 .f32) := fun c => by
    funext j
    idx_vars j
    exact weight_real _ _ _ (hp c) j0 j1
  refine ⟨fun c => Cert.KernelIdeal.Whole.W4 m c (Proc.devRef .tc Cert.KernelIdeal.main_v0), ?_, ?_⟩
  · exact θ_run_mono (Cert.KernelIdeal.Whole.run m g) fun _ h c => ⟨(h.1 c).2.2.2, (h.1 c).1, (h.1 c).2.1, (h.1 c).2.2.1⟩
  · refine θ_run_mono (Cert.ReferenceIdeal.Whole.run m' g') fun _ h c => ⟨(h.1 c).2.2.2.trans ?_, (h.1 c).1, (h.1 c).2.1, (h.1 c).2.2.1⟩
    obtain ⟨a0, a1, a2⟩ := ha c
    have k := Cert.KernelIdeal.Val.out_val m c _ (fun i j => ((m (c, Proc.devRef .tc Cert.KernelIdeal.main_arg1) : FVec Ideal Cert.KernelIdeal.S4096x4096 .f32) (ix2 i j)).toReal) _ rfl (hw c) rfl
    have r := Cert.ReferenceIdeal.Val.out_val m' c _ a0 (fun i j => ((m (c, Proc.devRef .tc Cert.KernelIdeal.main_arg1) : FVec Ideal Cert.KernelIdeal.S4096x4096 .f32) (ix2 i j)).toReal) _ (a1.trans (hw c)) a2
    exact r.trans ((out_same _ _ _).symm.trans k.symm)

/-- The frames restated under the value claim's precondition. -/
theorem framePI_pre : Cert.quiescent_KernelIdeal_pre_weight_finite (hKernelIdeal := Cert.KernelIdeal.Gen.facts) (hPre_weight_finite := preFacts) :=
  fun m g _ => θ_run_mono (Cert.KernelIdeal.Whole.run m g) fun _ h => ⟨fun c => ⟨(h.1 c).1, (h.1 c).2.1, (h.1 c).2.2.1⟩, h.2⟩

/-- The same of the reference. -/
theorem frameRI_pre : Cert.quiescent_ReferenceIdeal_pre_weight_finite (hReferenceIdeal := Cert.ReferenceIdeal.Gen.facts) (hPre_weight_finite := preFacts) :=
  fun m g _ => θ_run_mono (Cert.ReferenceIdeal.Whole.run m g) fun _ h => ⟨fun c => ⟨(h.1 c).1, (h.1 c).2.1, (h.1 c).2.2.1⟩, h.2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, preFacts,
    frameP, framePI, framePI_pre, frameRI, frameRI_pre, preserves, algebraic⟩

end Cert.Proof

end
